-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 1024]⟩ ⟨2, ![1024, 1024]⟩ (Layout.meshBlock [2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 512]⟩ ⟨2, ![1024, 1024]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.blockN ⟨2, ![512, 1024]⟩ ⟨2, ![1024, 1024]⟩ (Layout.meshBlock [2, 2] ![[1], []] c) (m' (((0 : Dev Cert.Reference.nD).tc : Thread Cert.Reference.nD Cert.Reference.τ).loc Cert.Reference.main_arg0))) →
    ∃ (v0 : Buf (Elt Bits) (((0 : Dev Cert.Reference.nD).tc : Thread Cert.Reference.nD Cert.Reference.τ).loc Cert.Reference.main_arg0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨2, ![1024, 512]⟩ ⟨2, ![1024, 1024]⟩ (Layout.meshBlock [2, 2] ![[], [1]] c) v0
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_arg0) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S512x1024 : Shape := ⟨2, ![512, 1024]⟩
abbrev S1024x512 : Shape := ⟨2, ![1024, 512]⟩
abbrev S6 : Shape := ⟨1, ![6]⟩
abbrev S5 : Shape := ⟨1, ![5]⟩
abbrev S_ : Shape := ⟨0, ![]⟩
abbrev S1 : Shape := ⟨1, ![1]⟩
abbrev S32x512 : Shape := ⟨2, ![32, 512]⟩
abbrev S192x512 : Shape := ⟨2, ![192, 512]⟩
abbrev S512x512 : Shape := ⟨2, ![512, 512]⟩

abbrev nBuf : Space → Nat
  | .hbm => 2
  | .vmem => 2
  | .smem => 0
  | _ => 0

abbrev bufTy : (tb : Table) → Fin (tcTables nBuf tb) → BufTy
  | .hbm, ⟨0, _⟩ => ⟨S512x1024, .bf16⟩
  | .hbm, ⟨1, _⟩ => ⟨S1024x512, .bf16⟩
  | .local _ .vmem, ⟨0, _⟩ => ⟨S512x1024, .bf16⟩
  | .local _ .vmem, ⟨1, _⟩ => ⟨S1024x512, .bf16⟩
  | _, _ => ⟨S512x1024, .bf16⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 1 24 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5 : BitVec 32 := 2#32
  let v9 : BitVec 32 := Scalar.muli v2 c2_i32_5
  let v10 : BitVec 32 := Scalar.addi c0_i32 v9
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6 : BitVec 32 := 1#32
  let v11 : BitVec 32 := Scalar.muli v6 c1_i32_6
  let v12 : BitVec 32 := Scalar.addi v10 v11
  v12.toNat
def k0_dev2 (d0 : Dev nD) : Nat :=
  let c0_i32_9 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_8 : BitVec 32 := 2#32
  let v13 : BitVec 32 := Scalar.muli v7 c2_i32_8
  let v14 : BitVec 32 := Scalar.addi c0_i32_9 v13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v15 : BitVec 32 := Scalar.muli v5 c1_i32_10
  let v16 : BitVec 32 := Scalar.addi v14 v15
  v16.toNat
def k0_off1 (d0 : Dev nD) (c0_i32_15 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_12 : BitVec 32 := 512#32
  let v18 : BitVec 32 := Scalar.muli v5 c512_i32_12
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c160_i32 : BitVec 32 := 160#32
  let v20 : BitVec 32 := Scalar.muli v2 c160_i32
  let v22 : BitVec 32 := Scalar.addi v18 v20
  let v23 : BitVec 32 := Scalar.addi v22 c0_i32_15
  let c0_i32_21 : BitVec 32 := 0#32
  ![v23.toNat, 0]
def k0_off2 (d0 : Dev nD) (c0_i32_14 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c160_i32 : BitVec 32 := 160#32
  let v20 : BitVec 32 := Scalar.muli v2 c160_i32
  let v21 : BitVec 32 := Scalar.addi v20 c0_i32_14
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c512_i32 : BitVec 32 := 512#32
  let v17 : BitVec 32 := Scalar.muli v6 c512_i32
  ![v21.toNat, v17.toNat]
def k0_dev3 (d0 : Dev nD) : Nat :=
  let c0_i32_19 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_18 : BitVec 32 := 2#32
  let v24 : BitVec 32 := Scalar.muli v2 c2_i32_18
  let v25 : BitVec 32 := Scalar.addi c0_i32_19 v24
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_20 : BitVec 32 := 1#32
  let v26 : BitVec 32 := Scalar.muli v6 c1_i32_20
  let v27 : BitVec 32 := Scalar.addi v25 v26
  v27.toNat
def k0_dev4 (d0 : Dev nD) : Nat :=
  let c0_i32_26 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_25 : BitVec 32 := 2#32
  let v37 : BitVec 32 := Scalar.muli v2 c2_i32_25
  let v38 : BitVec 32 := Scalar.addi c0_i32_26 v37
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_27 : BitVec 32 := 1#32
  let v39 : BitVec 32 := Scalar.muli v6 c1_i32_27
  let v40 : BitVec 32 := Scalar.addi v38 v39
  v40.toNat
def k0_dev5 (d0 : Dev nD) : Nat :=
  let c0_i32_33 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_32 : BitVec 32 := 2#32
  let v50 : BitVec 32 := Scalar.muli v2 c2_i32_32
  let v51 : BitVec 32 := Scalar.addi c0_i32_33 v50
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_34 : BitVec 32 := 1#32
  let v52 : BitVec 32 := Scalar.muli v6 c1_i32_34
  let v53 : BitVec 32 := Scalar.addi v51 v52
  v53.toNat
def k0_dev6 (d0 : Dev nD) : Nat :=
  let c0_i32_39 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_38 : BitVec 32 := 2#32
  let v63 : BitVec 32 := Scalar.muli v2 c2_i32_38
  let v64 : BitVec 32 := Scalar.addi c0_i32_39 v63
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_40 : BitVec 32 := 1#32
  let v65 : BitVec 32 := Scalar.muli v6 c1_i32_40
  let v66 : BitVec 32 := Scalar.addi v64 v65
  v66.toNat
def k0_dev7 (d0 : Dev nD) : Nat :=
  let c0_i32_45 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_44 : BitVec 32 := 2#32
  let v76 : BitVec 32 := Scalar.muli v2 c2_i32_44
  let v77 : BitVec 32 := Scalar.addi c0_i32_45 v76
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_46 : BitVec 32 := 1#32
  let v78 : BitVec 32 := Scalar.muli v6 c1_i32_46
  let v79 : BitVec 32 := Scalar.addi v77 v78
  v79.toNat
def k0_off3 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_12 : BitVec 32 := 512#32
  let v18 : BitVec 32 := Scalar.muli v5 c512_i32_12
  let c320_i32 : BitVec 32 := 320#32
  let v86 : BitVec 32 := Scalar.addi v18 c320_i32
  let c0_i32_52 : BitVec 32 := 0#32
  ![v86.toNat, 0]
def k0_off4 (d0 : Dev nD) : Fin 2 → Nat :=
  let c320_i32_53 : BitVec 32 := 320#32
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c512_i32 : BitVec 32 := 512#32
  let v17 : BitVec 32 := Scalar.muli v6 c512_i32
  ![320, v17.toNat]
def k0_dev8 (d0 : Dev nD) : Nat :=
  let c0_i32_50 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_49 : BitVec 32 := 2#32
  let v87 : BitVec 32 := Scalar.muli v2 c2_i32_49
  let v88 : BitVec 32 := Scalar.addi c0_i32_50 v87
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_51 : BitVec 32 := 1#32
  let v89 : BitVec 32 := Scalar.muli v6 c1_i32_51
  let v90 : BitVec 32 := Scalar.addi v88 v89
  v90.toNat
def k0_off5 (d0 : Dev nD) : Fin 2 → Nat :=
  let c0 : Index := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_54 : BitVec 32 := 512#32
  let v97 : BitVec 32 := Scalar.muli v5 c512_i32_54
  let v98 : Index := Scalar.indexCast v97
  ![0, v98.toNat]
def k0_off6 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_55 : BitVec 32 := 512#32
  let v101 : BitVec 32 := Scalar.muli v5 c512_i32_55
  let v102 : Index := Scalar.indexCast v101
  let c0_56 : Index := 0#32
  ![v102.toNat, 0]
def k0_off7 (d0 : Dev nD) (c0_i32_64 : BitVec 32) : Fin 2 → Nat :=
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c512_i32_13 : BitVec 32 := 512#32
  let v19 : BitVec 32 := Scalar.muli v6 c512_i32_13
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c160_i32 : BitVec 32 := 160#32
  let v20 : BitVec 32 := Scalar.muli v2 c160_i32
  let v114 : BitVec 32 := Scalar.addi v19 v20
  let v115 : BitVec 32 := Scalar.addi v114 c0_i32_64
  let c0_i32_70 : BitVec 32 := 0#32
  ![v115.toNat, 0]
def k0_dev9 (d0 : Dev nD) : Nat :=
  let c0_i32_68 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_67 : BitVec 32 := 2#32
  let v116 : BitVec 32 := Scalar.muli v7 c2_i32_67
  let v117 : BitVec 32 := Scalar.addi c0_i32_68 v116
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_69 : BitVec 32 := 1#32
  let v118 : BitVec 32 := Scalar.muli v5 c1_i32_69
  let v119 : BitVec 32 := Scalar.addi v117 v118
  v119.toNat
def k0_dev10 (d0 : Dev nD) : Nat :=
  let c0_i32_83 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_82 : BitVec 32 := 2#32
  let v138 : BitVec 32 := Scalar.muli v7 c2_i32_82
  let v139 : BitVec 32 := Scalar.addi c0_i32_83 v138
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_84 : BitVec 32 := 1#32
  let v140 : BitVec 32 := Scalar.muli v5 c1_i32_84
  let v141 : BitVec 32 := Scalar.addi v139 v140
  v141.toNat
def k0_dev11 (d0 : Dev nD) : Nat :=
  let c0_i32_98 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_97 : BitVec 32 := 2#32
  let v160 : BitVec 32 := Scalar.muli v7 c2_i32_97
  let v161 : BitVec 32 := Scalar.addi c0_i32_98 v160
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_99 : BitVec 32 := 1#32
  let v162 : BitVec 32 := Scalar.muli v5 c1_i32_99
  let v163 : BitVec 32 := Scalar.addi v161 v162
  v163.toNat
def k0_dev12 (d0 : Dev nD) : Nat :=
  let c0_i32_113 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_112 : BitVec 32 := 2#32
  let v182 : BitVec 32 := Scalar.muli v7 c2_i32_112
  let v183 : BitVec 32 := Scalar.addi c0_i32_113 v182
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_114 : BitVec 32 := 1#32
  let v184 : BitVec 32 := Scalar.muli v5 c1_i32_114
  let v185 : BitVec 32 := Scalar.addi v183 v184
  v185.toNat
def k0_dev13 (d0 : Dev nD) : Nat :=
  let c0_i32_128 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_127 : BitVec 32 := 2#32
  let v204 : BitVec 32 := Scalar.muli v7 c2_i32_127
  let v205 : BitVec 32 := Scalar.addi c0_i32_128 v204
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_129 : BitVec 32 := 1#32
  let v206 : BitVec 32 := Scalar.muli v5 c1_i32_129
  let v207 : BitVec 32 := Scalar.addi v205 v206
  v207.toNat
abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference.lean ====
abbrev S1024x1024 : Shape := ⟨2, ![1024, 1024]⟩

abbrev nBuf : Space → Nat
  | .hbm => 1
  | .vmem => 0
  | .smem => 0
  | _ => 0

abbrev bufTy : (tb : Table) → Fin (tcTables nBuf tb) → BufTy
  | .hbm, ⟨0, _⟩ => ⟨S1024x1024, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Program.lean ====
/-
# The kernel's body as loops over its chunks

The kernel moves its data in five chunks of 32 rows each and one piece of 192 rows. Its printed text writes out
every chunk; here the same text is written with one loop per phase, and `body_eq_loops` says that the two are the same
program. Everything proved about one chunk is then proved once.
-/
module

public import proofs.«01_k».proof.Proof.Gen.KernelIdeal
public import proofs.«01_k».proof.Proof.Gen.KernelIdeal.Skeleton

@[expose] public section

noncomputable section

namespace Cert.Exchange

open Cert.KernelIdeal Cert.KernelIdeal.Gen
open Idealize.ShloMosaic Idealize.SL.Sem

variable {F : FTy → Type} [FloatOps F]

/-- A program of the kernel's TensorCore. -/
abbrev Tc (F : FTy → Type) (α : Type) : Type 1 := Prog (TpuEff nD τ sig (Elt F) Λ₀ .tc) α

/-- Run `f` at each entry of a list, in order. -/
def forL {ι : Type} (f : ι → Tc F PUnit) : List ι → Tc F PUnit
  | [] => pure ⟨⟩
  | k :: l => f k >>= fun _ => forL f l

/-- The staged argument and the staged result. -/
abbrev xM : Memref sig .tc .vmem S512x1024 .bf16 := Memref.whole cc0_stg0_0
abbrev oM : Memref sig .tc .vmem S1024x512 .bf16 := Memref.whole cc0_stg1_0
theorem xM_whole : (xM : Memref sig .tc .vmem S512x1024 .bf16).IsWhole := Memref.isWhole_whole _
theorem oM_whole : (oM : Memref sig .tc .vmem S1024x512 .bf16).IsWhole := Memref.isWhole_whole _

/-- The runtime's barrier semaphore. -/
abbrev barS : Sem sig := (SemArray.scalar (sig.barrier 0 rfl) : Sems sig S_).sem

theorem inb6 (k : Fin 6) : ∀ a, (![k.val] : Fin 1 → ℕ) a + S1.size a ≤ S6.size a := by revert k; decide
theorem inb5 (k : Fin 5) : ∀ a, (![k.val] : Fin 1 → ℕ) a + S1.size a ≤ S5.size a := by revert k; decide

/-- Entry `k` of a scratch array of six, and of five, DMA semaphores. -/
abbrev at6 (s : DmaSems sig S6) (k : Fin 6) : DmaSem sig :=
  ((s.slice (Rect.unit (s := S6) ![k.val] S1.size (inb6 k))).squeeze S_ squeezes_S1_S_).sem
abbrev at5 (s : DmaSems sig S5) (k : Fin 5) : DmaSem sig :=
  ((s.slice (Rect.unit (s := S5) ![k.val] S1.size (inb5 k))).squeeze S_ squeezes_S1_S_).sem

/-- The semaphores of the first exchange (six transfers) and of the forwarding (five): sender's and receiver's. -/
abbrev sA (k : Fin 6) : DmaSem sig := at6 cc0_scratch0 k
abbrev rA (k : Fin 6) : DmaSem sig := at6 cc0_scratch1 k
abbrev sB (k : Fin 5) : DmaSem sig := at5 cc0_scratch2 k
abbrev rB (k : Fin 5) : DmaSem sig := at5 cc0_scratch3 k

/-- Row offset of chunk `k` among the 160 rows that a device sends in chunks. -/
abbrev chunkW (k : Fin 5) : BitVec 32 := BitVec.ofNat 32 (32 * k.val)

/-- Where chunk `k` lies: in the argument (sent), in the peer's result (received there), in the own result (forwarded). -/
abbrev xCh (c : Dev nD) (k : Fin 5) : Memref sig .tc .vmem S32x512 .bf16 :=
  xM.slice (Rect.unit (s := S512x1024) (k0_off2 c (chunkW k)) S32x512.size (k0_off2_inb c k)) (fun _ => rfl)
abbrev oCh (c : Dev nD) (k : Fin 5) : Memref sig .tc .vmem S32x512 .bf16 :=
  oM.slice (Rect.unit (s := S1024x512) (k0_off1 c (chunkW k)) S32x512.size (k0_off1_inb c k)) (fun _ => rfl)
abbrev fCh (c : Dev nD) (k : Fin 5) : Memref sig .tc .vmem S32x512 .bf16 :=
  oM.slice (Rect.unit (s := S1024x512) (k0_off7 c (chunkW k)) S32x512.size (k0_off7_inb c k)) (fun _ => rfl)
/-- The same for the one piece of 192 rows. -/
abbrev xBig (c : Dev nD) : Memref sig .tc .vmem S192x512 .bf16 :=
  xM.slice (Rect.unit (s := S512x1024) (k0_off4 c) S192x512.size (k0_off4_inb c)) (fun _ => rfl)
abbrev oBig (c : Dev nD) : Memref sig .tc .vmem S192x512 .bf16 :=
  oM.slice (Rect.unit (s := S1024x512) (k0_off3 c) S192x512.size (k0_off3_inb c)) (fun _ => rfl)
theorem xCh_words (c : Dev nD) (k : Fin 5) : (xCh c k).view.WordExact := xM_whole.wordExact_slice rfl _ (k0_off2_wordsbf16 c k)
theorem oCh_words (c : Dev nD) (k : Fin 5) : (oCh c k).view.WordExact := oM_whole.wordExact_slice rfl _ (k0_off1_wordsbf16 c k)
theorem fCh_words (c : Dev nD) (k : Fin 5) : (fCh c k).view.WordExact := oM_whole.wordExact_slice rfl _ (k0_off7_wordsbf16 c k)
theorem xBig_words (c : Dev nD) : (xBig c).view.WordExact := xM_whole.wordExact_slice rfl _ (k0_off4_wordsbf16 c)
theorem oBig_words (c : Dev nD) : (oBig c).view.WordExact := oM_whole.wordExact_slice rfl _ (k0_off3_wordsbf16 c)

/-- The device a chunk's first transfer, and its forwarding, is addressed to, as the kernel computes it. -/
def devA (c : Dev nD) : Fin 5 → Dev nD
  | 0 => ⟨k0_dev3 c, k0_dev3_lt c⟩ | 1 => ⟨k0_dev4 c, k0_dev4_lt c⟩ | 2 => ⟨k0_dev5 c, k0_dev5_lt c⟩
  | 3 => ⟨k0_dev6 c, k0_dev6_lt c⟩ | 4 => ⟨k0_dev7 c, k0_dev7_lt c⟩
def devB (c : Dev nD) : Fin 5 → Dev nD
  | 0 => ⟨k0_dev9 c, k0_dev9_lt c⟩ | 1 => ⟨k0_dev10 c, k0_dev10_lt c⟩ | 2 => ⟨k0_dev11 c, k0_dev11_lt c⟩
  | 3 => ⟨k0_dev12 c, k0_dev12_lt c⟩ | 4 => ⟨k0_dev13 c, k0_dev13_lt c⟩

/-- One transfer of a chunk, the 192 rows' transfer, one forwarding. -/
def sendCh (c : Dev nD) (k : Fin 5) : Tc F PUnit :=
  Prog.lift (.enqueueDma (xCh c k) (.remote (Dev.tc (devA c k)) (oCh c k) (.dma (sA k.castSucc))) (.dma (rA k.castSucc))
    (xCh_words c k) (oCh_words c k) ⟨⟨rfl, Or.inl rfl⟩, trivial⟩)
def sendBig (c : Dev nD) : Tc F PUnit :=
  Prog.lift (.enqueueDma (xBig c) (.remote (Dev.tc (⟨k0_dev8 c, k0_dev8_lt c⟩ : Dev nD)) (oBig c) (.dma (sA 5))) (.dma (rA 5))
    (xBig_words c) (oBig_words c) ⟨⟨rfl, Or.inl rfl⟩, trivial⟩)
def sendFw (c : Dev nD) (k : Fin 5) : Tc F PUnit :=
  Prog.lift (.enqueueDma (fCh c k) (.remote (Dev.tc (devB c k)) (fCh c k) (.dma (sB k))) (.dma (rB k))
    (fCh_words c k) (fCh_words c k) ⟨⟨rfl, Or.inl rfl⟩, trivial⟩)

/-- The waits. -/
def waitRA (c : Dev nD) (k : Fin 5) : Tc F PUnit :=
  Prog.lift (.waitDma2 (rA k.castSucc) (xCh c k) (oCh c k) (xCh_words c k) (oCh_words c k))
def waitRBig (c : Dev nD) : Tc F PUnit := Prog.lift (.waitDma2 (rA 5) (xBig c) (oBig c) (xBig_words c) (oBig_words c))
def waitRB (c : Dev nD) (k : Fin 5) : Tc F PUnit :=
  Prog.lift (.waitDma2 (rB k) (fCh c k) (fCh c k) (fCh_words c k) (fCh_words c k))
def waitSA (c : Dev nD) (k : Fin 5) : Tc F PUnit :=
  Prog.lift (.waitDma2 (sA k.castSucc) (oCh c k) (xCh c k) (oCh_words c k) (xCh_words c k))
def waitSBig (c : Dev nD) : Tc F PUnit := Prog.lift (.waitDma2 (sA 5) (oBig c) (xBig c) (oBig_words c) (xBig_words c))
def waitSB (c : Dev nD) (k : Fin 5) : Tc F PUnit :=
  Prog.lift (.waitDma2 (sB k) (fCh c k) (fCh c k) (fCh_words c k) (fCh_words c k))

/-- The rectangles the local copy reads and writes. -/
abbrev xLoc (c : Dev nD) : Rect S512x1024 := Rect.unit (s := S512x1024) (k0_off5 c) S512x512.size (k0_off5_inb c)
abbrev oLoc (c : Dev nD) : Rect S1024x512 := Rect.unit (s := S1024x512) (k0_off6 c) S512x512.size (k0_off6_inb c)

/-- The handshake: a unit to each of the two peers' barrier semaphores, then a wait for the two of one's own. -/
def handshake (c : Dev nD) : Tc F PUnit := do
  semSignalWord (⟨k0_dev1 c, k0_dev1_lt c⟩ : Dev nD) barS 1#32
  semSignalWord (⟨k0_dev2 c, k0_dev2_lt c⟩ : Dev nD) barS 1#32
  semWaitWord barS 2#32

/-- The local copy. -/
def copyLoc (c : Dev nD) : Tc F PUnit := do
  let v ← Prog.lift (.load xM (xLoc c).toLoadRect (View.loadsAt_vmem h_S512x512))
  let _w : Vec F S512x512 .bf16 ← Prog.lift (.load oM (oLoc c).toLoadRect (View.loadsAt_vmem h_S512x512))
  Prog.lift (.store oM (oLoc c) (k0_pay1 v) Finset.univ (View.stores_vmem h_S512x512 (oM_whole.storeExact_slice rfl _ (k0_off6_packedbf16 c)) (fun _ => rfl)) (.inl rfl))

/-- The body on device `c`, phase by phase. -/
def loops (c : Dev nD) : Tc F PUnit := do
  handshake c
  forL (sendCh c) [0, 1, 2, 3, 4]
  sendBig c
  copyLoc c
  forL (fun k => do waitRA c k; sendFw c k) [0, 1, 2, 3, 4]
  waitRBig c
  forL (waitRB c) [0, 1, 2, 3, 4]
  forL (fun k => do waitSA c k; waitSB c k) [0, 1, 2, 3, 4]
  waitSBig c

set_option maxRecDepth 65536 in
/-- The printed body is the phases, at the device it runs on. -/
theorem body_eq_loops :
    cc0_body (F := F) xM xM_whole oM oM_whole cc0_scratch0 cc0_scratch1 cc0_scratch2 cc0_scratch3
      = (Prog.lift .deviceId >>= fun c => loops c : Tc F PUnit) := rfl

end Cert.Exchange

end
-- ==== Proof.Pieces.lean ====
/-
# The four devices, the pieces of the two buffers, and what each piece comes to hold

Device `c` of the 2×2 mesh has the coordinates `c / 2` and `c % 2`. It exchanges pieces with the device that differs in the
second coordinate (`yp c`) and forwards pieces to the device that differs in the first (`xp c`). Its result has 1024 rows:
512 copied from its own argument; six pieces received from `yp c` (five of 32 rows, one of 192); five pieces of 32 rows
forwarded by `xp c`.
-/
module

public import proofs.«01_k».proof.Proof.Program
public import Idealize.ShloMosaic.Lib.Pipeline.Kit

@[expose] public section

noncomputable section

namespace Cert.Exchange

open Cert.KernelIdeal Cert.KernelIdeal.Gen
open Idealize.ShloMosaic Idealize.ShloMosaic.TcCoe Idealize.SL.Sem

/-! ## The devices -/

set_option backward.proofsInPublic true in
/-- The device that differs in the second coordinate. -/
def yp (c : Dev nD) : Dev nD := ⟨2 * (c.val / 2) + (1 - c.val % 2), by have := c.isLt; revert this; show c.val < 4 → _ < 4; omega⟩
set_option backward.proofsInPublic true in
/-- The device that differs in the first coordinate. -/
def xp (c : Dev nD) : Dev nD := ⟨2 * (1 - c.val / 2) + c.val % 2, by show _ < 4; omega⟩

theorem lt4 (c : Dev nD) : c.val < 4 := c.isLt
theorem yp_div (c : Dev nD) : (yp c).val / 2 = c.val / 2 := by revert c; decide
theorem yp_mod (c : Dev nD) : (yp c).val % 2 = 1 - c.val % 2 := by revert c; decide
theorem xp_div (c : Dev nD) : (xp c).val / 2 = 1 - c.val / 2 := by revert c; decide
theorem xp_mod (c : Dev nD) : (xp c).val % 2 = c.val % 2 := by revert c; decide
theorem yp_yp (c : Dev nD) : yp (yp c) = c := by revert c; decide
theorem xp_xp (c : Dev nD) : xp (xp c) = c := by revert c; decide
theorem yp_xp (c : Dev nD) : yp (xp c) = xp (yp c) := by revert c; decide

theorem dev1_eq (c : Dev nD) : (⟨k0_dev1 c, k0_dev1_lt c⟩ : Dev nD) = yp c := by revert c; decide +kernel
theorem dev2_eq (c : Dev nD) : (⟨k0_dev2 c, k0_dev2_lt c⟩ : Dev nD) = xp c := by revert c; decide +kernel
theorem dev8_eq (c : Dev nD) : (⟨k0_dev8 c, k0_dev8_lt c⟩ : Dev nD) = yp c := by revert c; decide +kernel
theorem devA_eq (c : Dev nD) (k : Fin 5) : devA c k = yp c := by revert c k; decide +kernel
theorem devB_eq (c : Dev nD) (k : Fin 5) : devB c k = xp c := by revert c k; decide +kernel

/-! ## The pieces -/

/-- How many rows piece `k` of the first exchange has, and where it starts among the 512 rows of the argument. -/
def pN (k : Fin 6) : ℕ := if k = 5 then 192 else 32
def pLo (c : Dev nD) (k : Fin 6) : ℕ := if k = 5 then 320 else 160 * (c.val / 2) + 32 * k.val

/-- Rows `lo … lo + n - 1` of the result. -/
def rows (lo n : ℕ) : Finset S1024x512.Idx := Finset.univ.filter fun i => lo ≤ (i 0).val ∧ (i 0).val < lo + n
/-- Rows `lo … lo + n - 1` and columns `co … co + 511` of the argument. -/
def block (lo n co : ℕ) : Finset S512x1024.Idx :=
  Finset.univ.filter fun i => (lo ≤ (i 0).val ∧ (i 0).val < lo + n) ∧ (co ≤ (i 1).val ∧ (i 1).val < co + 512)

theorem mem_rows {lo n : ℕ} {i : S1024x512.Idx} : i ∈ rows lo n ↔ lo ≤ (i 0).val ∧ (i 0).val < lo + n := by
  simp only [rows, Finset.mem_filter, Finset.mem_univ, true_and]
theorem mem_block {lo n co : ℕ} {i : S512x1024.Idx} :
    i ∈ block lo n co ↔ (lo ≤ (i 0).val ∧ (i 0).val < lo + n) ∧ (co ≤ (i 1).val ∧ (i 1).val < co + 512) := by
  simp only [block, Finset.mem_filter, Finset.mem_univ, true_and]

/-- Piece `k` of the result of device `c` that `yp c` fills. -/
def aReg (c : Dev nD) (k : Fin 6) : Finset S1024x512.Idx := rows (512 - 512 * (c.val % 2) + pLo c k) (pN k)
/-- Piece `k` of the result of device `c` that `xp c` fills: the rows `xp c` itself received as its piece `k`. -/
def fReg (c : Dev nD) (k : Fin 5) : Finset S1024x512.Idx := aReg (xp c) k.castSucc
/-- The rows of its result that device `c` copies from its own argument. -/
def hReg (c : Dev nD) : Finset S1024x512.Idx := rows (512 * (c.val % 2)) 512
/-- The part of its argument device `c` sends as piece `k`. -/
def xReg (c : Dev nD) (k : Fin 6) : Finset S512x1024.Idx := block (pLo c k) (pN k) (512 - 512 * (c.val % 2))

theorem mem_aReg {c : Dev nD} {k : Fin 6} {i : S1024x512.Idx} :
    i ∈ aReg c k ↔ 512 - 512 * (c.val % 2) + pLo c k ≤ (i 0).val ∧ (i 0).val < 512 - 512 * (c.val % 2) + pLo c k + pN k := mem_rows
theorem mem_fReg {c : Dev nD} {k : Fin 5} {i : S1024x512.Idx} :
    i ∈ fReg c k ↔ 512 - 512 * (c.val % 2) + (160 * (1 - c.val / 2) + 32 * k.val) ≤ (i 0).val
      ∧ (i 0).val < 512 - 512 * (c.val % 2) + (160 * (1 - c.val / 2) + 32 * k.val) + 32 := by
  rw [fReg, mem_aReg, xp_mod]
  have h : k.castSucc ≠ (5 : Fin 6) := fun h => by have h' := congrArg Fin.val h; have := k.isLt; simp at h'; omega
  rw [pLo, pN, if_neg h, if_neg h, xp_div, Fin.val_castSucc]

theorem castSucc_ne (k : Fin 5) : k.castSucc ≠ (5 : Fin 6) :=
  fun h => by have h' := congrArg Fin.val h; have := k.isLt; simp at h'; omega
theorem pLo_castSucc (c : Dev nD) (k : Fin 5) : pLo c k.castSucc = 160 * (c.val / 2) + 32 * k.val := by
  rw [pLo, if_neg (castSucc_ne k), Fin.val_castSucc]
theorem pN_castSucc (k : Fin 5) : pN k.castSucc = 32 := by rw [pN, if_neg (castSucc_ne k)]
theorem pLo_last (c : Dev nD) : pLo c 5 = 320 := if_pos rfl
theorem pN_last : pN 5 = 192 := if_pos rfl

/-- Piece `k` and its place, as numbers: the split into the five chunks and the piece of 192 rows. -/
theorem piece_cases (c : Dev nD) (k : Fin 6) :
    (k.val < 5 ∧ pLo c k = 160 * (c.val / 2) + 32 * k.val ∧ pN k = 32) ∨ (k.val = 5 ∧ pLo c k = 320 ∧ pN k = 192) := by
  by_cases h : k = 5
  · subst h; exact .inr ⟨rfl, pLo_last c, pN_last⟩
  · refine .inl ⟨?_, by rw [pLo, if_neg h], by rw [pN, if_neg h]⟩
    have h1 := k.isLt
    have h2 : k.val ≠ 5 := fun h' => h (Fin.ext h')
    omega

theorem row_lt (i : S1024x512.Idx) : (i 0).val < 1024 := (i 0).isLt
theorem col_lt (i : S1024x512.Idx) : (i 1).val < 512 := (i 1).isLt

theorem aReg_disjoint (c : Dev nD) (k l : Fin 6) (h : k ≠ l) : Disjoint (aReg c k) (aReg c l) := by
  rw [Finset.disjoint_left]; intro i hk hl
  rw [mem_aReg] at hk hl
  have hne : k.val ≠ l.val := fun h' => h (Fin.ext h')
  have := lt4 c
  rcases piece_cases c k with ⟨h1, h2, h3⟩ | ⟨h1, h2, h3⟩ <;> rcases piece_cases c l with ⟨h4, h5, h6⟩ | ⟨h4, h5, h6⟩ <;>
    rw [h2, h3] at hk <;> rw [h5, h6] at hl <;> omega

theorem fReg_disjoint (c : Dev nD) (k l : Fin 5) (h : k ≠ l) : Disjoint (fReg c k) (fReg c l) :=
  aReg_disjoint (xp c) _ _ fun h' => h (Fin.castSucc_injective _ h')

theorem xReg_disjoint (c : Dev nD) (k l : Fin 6) (h : k ≠ l) : Disjoint (xReg c k) (xReg c l) := by
  rw [Finset.disjoint_left]; intro i hk hl
  rw [xReg, mem_block] at hk hl
  have hne : k.val ≠ l.val := fun h' => h (Fin.ext h')
  have := lt4 c
  rcases piece_cases c k with ⟨h1, h2, h3⟩ | ⟨h1, h2, h3⟩ <;> rcases piece_cases c l with ⟨h4, h5, h6⟩ | ⟨h4, h5, h6⟩ <;>
    rw [h2, h3] at hk <;> rw [h5, h6] at hl <;> omega

/-- The six pieces from `yp c`, together; the five from `xp c`, together. -/
def aAll (c : Dev nD) : Finset S1024x512.Idx := Finset.univ.biUnion (aReg c)
def fAll (c : Dev nD) : Finset S1024x512.Idx := Finset.univ.biUnion (fReg c)
def xAll (c : Dev nD) : Finset S512x1024.Idx := Finset.univ.biUnion (xReg c)

theorem aAll_fAll_disjoint (c : Dev nD) : Disjoint (aAll c) (fAll c) := by
  rw [Finset.disjoint_left]; intro i hk hl
  obtain ⟨k, -, hk⟩ := Finset.mem_biUnion.mp hk
  obtain ⟨l, -, hl⟩ := Finset.mem_biUnion.mp hl
  rw [mem_aReg] at hk; rw [mem_fReg] at hl
  have := lt4 c; have := l.isLt
  rcases piece_cases c k with ⟨h1, h2, h3⟩ | ⟨h1, h2, h3⟩ <;> rw [h2, h3] at hk <;> omega

theorem hReg_disjoint (c : Dev nD) : Disjoint (hReg c) (aAll c ∪ fAll c) := by
  rw [Finset.disjoint_left]; intro i hh hl
  rw [hReg, mem_rows] at hh
  have := lt4 c
  rcases Finset.mem_union.mp hl with hl | hl
  · obtain ⟨k, -, hk⟩ := Finset.mem_biUnion.mp hl
    rw [mem_aReg] at hk
    rcases piece_cases c k with ⟨h1, h2, h3⟩ | ⟨h1, h2, h3⟩ <;> rw [h2, h3] at hk <;> omega
  · obtain ⟨k, -, hk⟩ := Finset.mem_biUnion.mp hl
    rw [mem_fReg] at hk
    have := k.isLt
    have h2 : c.val % 2 = 0 ∨ c.val % 2 = 1 := by omega
    have h3 : c.val / 2 ≤ 1 := by omega
    rcases h2 with h2 | h2 <;> rw [h2] at hh hk <;> omega

/-- Every row of the result is in one of the pieces. -/
theorem cover (c : Dev nD) : hReg c ∪ (aAll c ∪ fAll c) = Finset.univ := by
  ext i
  refine ⟨fun _ => Finset.mem_univ _, fun _ => ?_⟩
  have h4 := lt4 c
  have hi := row_lt i
  rw [Finset.mem_union, Finset.mem_union]
  by_cases hh : 512 * (c.val % 2) ≤ (i 0).val ∧ (i 0).val < 512 * (c.val % 2) + 512
  · exact .inl (mem_rows.mpr hh)
  refine .inr ?_
  by_cases hb : 512 - 512 * (c.val % 2) + 320 ≤ (i 0).val
  · refine .inl (Finset.mem_biUnion.mpr ⟨5, Finset.mem_univ _, ?_⟩)
    rw [mem_aReg, pLo_last, pN_last]; omega
  set r := (i 0).val - (512 - 512 * (c.val % 2)) with hr
  by_cases hx : 160 * (c.val / 2) ≤ r ∧ r < 160 * (c.val / 2) + 160
  · have hk : (r - 160 * (c.val / 2)) / 32 < 5 := by omega
    refine .inl (Finset.mem_biUnion.mpr ⟨(⟨_, hk⟩ : Fin 5).castSucc, Finset.mem_univ _, ?_⟩)
    rw [mem_aReg, pLo_castSucc, pN_castSucc]
    show _ + (_ + 32 * ((r - 160 * (c.val / 2)) / 32)) ≤ _ ∧ _ < _ + (_ + 32 * ((r - 160 * (c.val / 2)) / 32)) + 32
    omega
  · have hk : (r - 160 * (1 - c.val / 2)) / 32 < 5 := by omega
    refine .inr (Finset.mem_biUnion.mpr ⟨⟨_, hk⟩, Finset.mem_univ _, ?_⟩)
    rw [mem_fReg]
    show _ + (_ + 32 * ((r - 160 * (1 - c.val / 2)) / 32)) ≤ _ ∧ _ < _ + (_ + 32 * ((r - 160 * (1 - c.val / 2)) / 32)) + 32
    omega

/-! ## The pieces as the program names them -/

theorem xCh_set (c : Dev nD) (k : Fin 5) : (xCh c k).view.set = xReg c k.castSucc := by
  refine (View.set_slice_whole _ _).trans ?_
  ext i
  rw [xReg, mem_block, pLo_castSucc, pN_castSucc]
  refine (Rect.mem_set_unit (s := S512x1024)).trans ?_
  rw [k0_off2_eq]
  exact Fin.forall_fin_two

theorem oCh_set (c : Dev nD) (k : Fin 5) : (oCh c k).view.set = aReg (yp c) k.castSucc := by
  refine (View.set_slice_whole _ _).trans ?_
  ext i
  rw [mem_aReg, pLo_castSucc, pN_castSucc, yp_mod, yp_div]
  refine (Rect.mem_set_unit (s := S1024x512)).trans ?_
  rw [k0_off1_eq]
  refine Fin.forall_fin_two.trans ?_
  show ((512 * (c.val % 2) + 160 * (c.val / 2) + 32 * k.val ≤ (i 0).val ∧ (i 0).val < 512 * (c.val % 2) + 160 * (c.val / 2) + 32 * k.val + 32)
    ∧ (0 ≤ (i 1).val ∧ (i 1).val < 0 + 512)) ↔ _
  have := col_lt i
  omega

theorem fCh_set (c : Dev nD) (k : Fin 5) : (fCh c k).view.set = aReg c k.castSucc := by
  refine (View.set_slice_whole _ _).trans ?_
  ext i
  rw [mem_aReg, pLo_castSucc, pN_castSucc]
  refine (Rect.mem_set_unit (s := S1024x512)).trans ?_
  rw [k0_off7_eq]
  refine Fin.forall_fin_two.trans ?_
  show ((160 * (c.val / 2) + 32 * k.val + 512 - 512 * (c.val % 2) ≤ (i 0).val ∧ (i 0).val < 160 * (c.val / 2) + 32 * k.val + 512 - 512 * (c.val % 2) + 32)
    ∧ (0 ≤ (i 1).val ∧ (i 1).val < 0 + 512)) ↔ _
  have := col_lt i
  omega

theorem xBig_set (c : Dev nD) : (xBig c).view.set = xReg c 5 := by
  refine (View.set_slice_whole _ _).trans ?_
  ext i
  rw [xReg, mem_block, pLo_last, pN_last]
  refine (Rect.mem_set_unit (s := S512x1024)).trans ?_
  rw [k0_off4_eq]
  exact Fin.forall_fin_two

theorem oBig_set (c : Dev nD) : (oBig c).view.set = aReg (yp c) 5 := by
  refine (View.set_slice_whole _ _).trans ?_
  ext i
  rw [mem_aReg, pLo_last, pN_last, yp_mod]
  refine (Rect.mem_set_unit (s := S1024x512)).trans ?_
  rw [k0_off3_eq]
  refine Fin.forall_fin_two.trans ?_
  show ((512 * (c.val % 2) + 320 ≤ (i 0).val ∧ (i 0).val < 512 * (c.val % 2) + 320 + 192)
    ∧ (0 ≤ (i 1).val ∧ (i 1).val < 0 + 512)) ↔ _
  have := col_lt i
  omega

theorem oLoc_set (c : Dev nD) : (oLoc c).set = hReg c := by
  ext i
  rw [hReg, mem_rows]
  refine (Rect.mem_set_unit (s := S1024x512)).trans ?_
  rw [k0_off6_eq]
  refine Fin.forall_fin_two.trans ?_
  show ((512 * (c.val % 2) ≤ (i 0).val ∧ (i 0).val < 512 * (c.val % 2) + 512)
    ∧ (0 ≤ (i 1).val ∧ (i 1).val < 0 + 512)) ↔ _
  have := col_lt i
  omega

/-- The local copy reads nothing of what is sent. -/
theorem xLoc_disjoint (c : Dev nD) : Disjoint (xLoc c).set (xAll c) := by
  rw [Finset.disjoint_left]; intro i hi hx
  obtain ⟨k, -, hk⟩ := Finset.mem_biUnion.mp hx
  rw [xReg, mem_block] at hk
  have h := (Rect.mem_set_unit (s := S512x1024)).mp hi
  rw [k0_off5_eq] at h
  have h1 := h 1
  have h1' : 512 * (c.val % 2) ≤ (i 1).val ∧ (i 1).val < 512 * (c.val % 2) + 512 := h1
  have := lt4 c
  omega

end Cert.Exchange

end
-- ==== Proof.Contents.lean ====
/-
# What the result holds, element by element

`outAt X c` is the whole result of device `c` when device `d` was given the argument `X d`: row `r`, column `j` is row
`r % 512`, column `512 * (c % 2) + j` of the argument of the device the row comes from. Each transfer and the local copy is
shown to put exactly these values in place.
-/
module

public import proofs.«01_k».proof.Proof.Pieces
public import Idealize.ShloMosaic.Lib.Pipeline.Value
public import Idealize.ShloMosaic.Lib.Pipeline.ValueKit.Geometry

@[expose] public section

noncomputable section

namespace Cert.Exchange

open Cert.KernelIdeal Cert.KernelIdeal.Gen
open Idealize.ShloMosaic Idealize.ShloMosaic.TcCoe Idealize.SL.Sem

variable {F : FTy → Type} [FloatOps F]

/-- An argument and a result of one device. -/
abbrev XBuf (F : FTy → Type) : Type := (cc0_stg0_0 : Ref sig .tc).ty.Contents (Elt F)
abbrev OBuf (F : FTy → Type) : Type := (cc0_stg1_0 : Ref sig .tc).ty.Contents (Elt F)

set_option backward.proofsInPublic true in
/-- Row `r`, column `q` of an argument. -/
def ix (r q : ℕ) : S512x1024.Idx := fun a => match a with
  | ⟨0, _⟩ => ⟨r % 512, Nat.mod_lt _ (by decide)⟩
  | ⟨1, _⟩ => ⟨q % 1024, Nat.mod_lt _ (by decide)⟩

theorem ix_row (r q : ℕ) : (ix r q 0).val = r % 512 := rfl
theorem ix_col (r q : ℕ) : (ix r q 1).val = q % 1024 := rfl

theorem eq_ix {i : S512x1024.Idx} {r q : ℕ} (h0 : (i 0).val = r % 512) (h1 : (i 1).val = q % 1024) : i = ix r q := by
  funext a
  match a with
  | ⟨0, _⟩ => exact Fin.ext h0
  | ⟨1, _⟩ => exact Fin.ext h1

theorem ix_eq_ix {r q r' q' : ℕ} (h0 : r % 512 = r' % 512) (h1 : q % 1024 = q' % 1024) : ix r q = ix r' q' := eq_ix h0 h1

/-- The device whose argument row `r` of the result of device `c` comes from. -/
def srcDev (c : Dev nD) (r : ℕ) : Dev nD :=
  if r / 512 = c.val % 2 then c else if r % 512 / 160 = 1 - c.val / 2 then yp (xp c) else yp c

/-- The result of device `c`. -/
def outAt (X : Dev nD → XBuf F) (c : Dev nD) : OBuf F :=
  fun i => X (srcDev c (i 0).val) (ix (i 0).val (512 * (c.val % 2) + (i 1).val))

theorem srcDev_h (c : Dev nD) (i : S1024x512.Idx) (h : i ∈ hReg c) : srcDev c (i 0).val = c := by
  rw [hReg, mem_rows] at h
  rw [srcDev, if_pos]; have := lt4 c; omega

theorem srcDev_a (c : Dev nD) (k : Fin 6) (i : S1024x512.Idx) (h : i ∈ aReg c k) : srcDev c (i 0).val = yp c := by
  rw [mem_aReg] at h
  have h4 := lt4 c
  have hp : ¬ (i 0).val / 512 = c.val % 2 ∧ ¬ (i 0).val % 512 / 160 = 1 - c.val / 2 := by
    have h2 : c.val % 2 = 0 ∨ c.val % 2 = 1 := by omega
    have h3 : c.val / 2 = 0 ∨ c.val / 2 = 1 := by omega
    rcases piece_cases c k with ⟨k1, k2, k3⟩ | ⟨k1, k2, k3⟩ <;> rw [k2, k3] at h <;>
      rcases h2 with h2 | h2 <;> rcases h3 with h3 | h3 <;> simp only [h2, h3] at h ⊢ <;> omega
  rw [srcDev, if_neg hp.1, if_neg hp.2]

theorem srcDev_f (c : Dev nD) (k : Fin 5) (i : S1024x512.Idx) (h : i ∈ fReg c k) : srcDev c (i 0).val = yp (xp c) := by
  rw [mem_fReg] at h
  have h4 := lt4 c
  have hk := k.isLt
  have hp : ¬ (i 0).val / 512 = c.val % 2 ∧ (i 0).val % 512 / 160 = 1 - c.val / 2 := by
    have h2 : c.val % 2 = 0 ∨ c.val % 2 = 1 := by omega
    have h3 : c.val / 2 = 0 ∨ c.val / 2 = 1 := by omega
    rcases h2 with h2 | h2 <;> rcases h3 with h3 | h3 <;> simp only [h2, h3] at h ⊢ <;> omega
  rw [srcDev, if_neg hp.1, if_pos hp.2]

variable (X : Dev nD → XBuf F)

/-- Two devices that differ in the first coordinate hold the same values in the rows one forwards to the other. -/
theorem outAt_fw (c : Dev nD) (k : Fin 5) : ∀ i ∈ fReg (xp c) k, outAt X c i = outAt X (xp c) i := by
  intro i hi
  have ha : i ∈ aReg c k.castSucc := by rw [fReg, xp_xp] at hi; exact hi
  unfold outAt
  rw [srcDev_a c _ i ha, srcDev_f (xp c) k i hi, xp_xp, xp_mod]

omit [FloatOps F] in
/-- A write through a view into the whole result, read off at the element it was written to. -/
theorem write_at {s : Shape} (v : View sig .tc .vmem s .bf16) (f : v.ty.Contents (Elt F)) (w : s.Idx → Elt F .bf16)
    (g : v.ty.Contents (Elt F)) (h : ∀ x : s.Idx, cast (congrArg (Elt F) v.elt_eq.symm) (w x) = g (v.emb x)) :
    ∀ i ∈ v.set, v.write (Elt F) f w Finset.univ i = g i := by
  intro i hi
  obtain ⟨x, -, rfl⟩ := Finset.mem_map.mp hi
  rw [View.write_emb_of_mem f w (Finset.mem_univ x)]
  exact h x

/-- Chunk `k` written into the result of `yp c` is what that result is to hold there. -/
theorem value_ch (c : Dev nD) (k : Fin 5) (f : OBuf F) :
    ∀ i ∈ aReg (yp c) k.castSucc,
      (oCh c k).view.write (Elt F) f ((xCh c k).view.read (Elt F) (X c)) Finset.univ i = outAt X (yp c) i := by
  rw [← oCh_set]
  refine write_at (F := F) (oCh c k).view f _ (outAt X (yp c)) fun x => ?_
  have hm : (oCh c k).view.emb x ∈ aReg (yp c) k.castSucc := by
    rw [← oCh_set]; exact Finset.mem_map_of_mem _ (Finset.mem_univ x)
  show X c ((xCh c k).view.emb x) = X (srcDev (yp c) ((oCh c k).view.emb x 0).val) _
  rw [srcDev_a (yp c) _ _ hm, yp_yp]
  have o0 : ((oCh c k).view.emb x 0).val = 512 * (c.val % 2) + 160 * (c.val / 2) + 32 * k.val + (x 0).val := by
    refine (ValueKit.view_emb_slice_whole_unit_val cc0_stg1_0 (k0_off1 c (chunkW k)) S32x512.size (k0_off1_inb c k) x 0).trans ?_
    exact congrArg (· + (x 0).val) (congrFun (k0_off1_eq c k) 0)
  have o1 : ((oCh c k).view.emb x 1).val = 0 + (x 1).val := by
    refine (ValueKit.view_emb_slice_whole_unit_val cc0_stg1_0 (k0_off1 c (chunkW k)) S32x512.size (k0_off1_inb c k) x 1).trans ?_
    exact congrArg (· + (x 1).val) (congrFun (k0_off1_eq c k) 1)
  have s0 : ((xCh c k).view.emb x 0).val = 160 * (c.val / 2) + 32 * k.val + (x 0).val := by
    refine (ValueKit.view_emb_slice_whole_unit_val cc0_stg0_0 (k0_off2 c (chunkW k)) S32x512.size (k0_off2_inb c k) x 0).trans ?_
    exact congrArg (· + (x 0).val) (congrFun (k0_off2_eq c k) 0)
  have s1 : ((xCh c k).view.emb x 1).val = 512 - 512 * (c.val % 2) + (x 1).val := by
    refine (ValueKit.view_emb_slice_whole_unit_val cc0_stg0_0 (k0_off2 c (chunkW k)) S32x512.size (k0_off2_inb c k) x 1).trans ?_
    exact congrArg (· + (x 1).val) (congrFun (k0_off2_eq c k) 1)
  have x0 : (x 0).val < 32 := (x 0).isLt
  have x1 : (x 1).val < 512 := (x 1).isLt
  have h4 := lt4 c
  have hk := k.isLt
  refine congrArg (X c) (eq_ix ?_ ?_)
  · rw [o0, s0]; omega
  · rw [o1, s1, yp_mod]; omega

/-- The same of the piece of 192 rows. -/
theorem value_big (c : Dev nD) (f : OBuf F) :
    ∀ i ∈ aReg (yp c) 5,
      (oBig c).view.write (Elt F) f ((xBig c).view.read (Elt F) (X c)) Finset.univ i = outAt X (yp c) i := by
  rw [← oBig_set]
  refine write_at (F := F) (oBig c).view f _ (outAt X (yp c)) fun x => ?_
  have hm : (oBig c).view.emb x ∈ aReg (yp c) 5 := by
    rw [← oBig_set]; exact Finset.mem_map_of_mem _ (Finset.mem_univ x)
  show X c ((xBig c).view.emb x) = X (srcDev (yp c) ((oBig c).view.emb x 0).val) _
  rw [srcDev_a (yp c) _ _ hm, yp_yp]
  have o0 : ((oBig c).view.emb x 0).val = 512 * (c.val % 2) + 320 + (x 0).val := by
    refine (ValueKit.view_emb_slice_whole_unit_val cc0_stg1_0 (k0_off3 c) S192x512.size (k0_off3_inb c) x 0).trans ?_
    exact congrArg (· + (x 0).val) (congrFun (k0_off3_eq c) 0)
  have o1 : ((oBig c).view.emb x 1).val = 0 + (x 1).val := by
    refine (ValueKit.view_emb_slice_whole_unit_val cc0_stg1_0 (k0_off3 c) S192x512.size (k0_off3_inb c) x 1).trans ?_
    exact congrArg (· + (x 1).val) (congrFun (k0_off3_eq c) 1)
  have s0 : ((xBig c).view.emb x 0).val = 320 + (x 0).val := by
    refine (ValueKit.view_emb_slice_whole_unit_val cc0_stg0_0 (k0_off4 c) S192x512.size (k0_off4_inb c) x 0).trans ?_
    exact congrArg (· + (x 0).val) (congrFun (k0_off4_eq c) 0)
  have s1 : ((xBig c).view.emb x 1).val = 512 - 512 * (c.val % 2) + (x 1).val := by
    refine (ValueKit.view_emb_slice_whole_unit_val cc0_stg0_0 (k0_off4 c) S192x512.size (k0_off4_inb c) x 1).trans ?_
    exact congrArg (· + (x 1).val) (congrFun (k0_off4_eq c) 1)
  have x0 : (x 0).val < 192 := (x 0).isLt
  have x1 : (x 1).val < 512 := (x 1).isLt
  have h4 := lt4 c
  refine congrArg (X c) (eq_ix ?_ ?_)
  · rw [o0, s0]; omega
  · rw [o1, s1, yp_mod]; omega

/-- Forwarding copies a piece to the same place, so what is written there is what was there on the forwarding device. -/
theorem value_fw (c : Dev nD) (k : Fin 5) (f : OBuf F) :
    ∀ i ∈ fReg (xp c) k,
      (fCh c k).view.write (Elt F) f ((fCh c k).view.read (Elt F) (outAt X c)) Finset.univ i = outAt X (xp c) i := by
  intro i hi
  rw [← outAt_fw X c k i hi]
  have hi' : i ∈ (fCh c k).view.set := by rw [fCh_set]; rw [fReg, xp_xp] at hi; exact hi
  exact write_at (fCh c k).view f _ (outAt X c) (fun x => rfl) i hi'

/-- The local copy puts the right values into the own rows. -/
theorem value_loc (c : Dev nD) (f : OBuf F) :
    ∀ i ∈ hReg c,
      ((oM : Memref sig .tc .vmem S1024x512 .bf16).access (oLoc c) : View sig .tc _ _ _).write (Elt F) f
        (k0_pay1 (xM.view.readAt (Elt F) (xLoc c).toLoadRect (X c))) Finset.univ i = outAt X c i := by
  have hs : ((oM : Memref sig .tc .vmem S1024x512 .bf16).access (oLoc c) : View sig .tc _ _ _).set = hReg c :=
    (View.set_slice_whole _ _).trans (oLoc_set c)
  rw [← hs]
  refine write_at (F := F) ((oM : Memref sig .tc .vmem S1024x512 .bf16).access (oLoc c)) f _ (outAt X c) fun x => ?_
  have hm : ((oM : Memref sig .tc .vmem S1024x512 .bf16).access (oLoc c) : View sig .tc _ _ _).emb x ∈ hReg c := by
    rw [← hs]; exact Finset.mem_map_of_mem _ (Finset.mem_univ x)
  rw [k0_pay1, shapeCast_self]
  show X c (((View.whole cc0_stg0_0).slice (xLoc c)).emb x) = X (srcDev c (((oM : Memref sig .tc .vmem S1024x512 .bf16).access (oLoc c) : View sig .tc _ _ _).emb x 0).val) _
  rw [srcDev_h c _ hm]
  have o0 : (((oM : Memref sig .tc .vmem S1024x512 .bf16).access (oLoc c) : View sig .tc _ _ _).emb x 0).val = 512 * (c.val % 2) + (x 0).val := by
    refine (ValueKit.view_emb_slice_whole_unit_val cc0_stg1_0 (k0_off6 c) S512x512.size (k0_off6_inb c) x 0).trans ?_
    exact congrArg (· + (x 0).val) (congrFun (k0_off6_eq c) 0)
  have o1 : (((oM : Memref sig .tc .vmem S1024x512 .bf16).access (oLoc c) : View sig .tc _ _ _).emb x 1).val = 0 + (x 1).val := by
    refine (ValueKit.view_emb_slice_whole_unit_val cc0_stg1_0 (k0_off6 c) S512x512.size (k0_off6_inb c) x 1).trans ?_
    exact congrArg (· + (x 1).val) (congrFun (k0_off6_eq c) 1)
  have s0 : (((View.whole cc0_stg0_0).slice (xLoc c)).emb x 0).val = 0 + (x 0).val := by
    refine (ValueKit.view_emb_slice_whole_unit_val cc0_stg0_0 (k0_off5 c) S512x512.size (k0_off5_inb c) x 0).trans ?_
    exact congrArg (· + (x 0).val) (congrFun (k0_off5_eq c) 0)
  have s1 : (((View.whole cc0_stg0_0).slice (xLoc c)).emb x 1).val = 512 * (c.val % 2) + (x 1).val := by
    refine (ValueKit.view_emb_slice_whole_unit_val cc0_stg0_0 (k0_off5 c) S512x512.size (k0_off5_inb c) x 1).trans ?_
    exact congrArg (· + (x 1).val) (congrFun (k0_off5_eq c) 1)
  have x0 : (x 0).val < 512 := (x 0).isLt
  have x1 : (x 1).val < 512 := (x 1).isLt
  have h4 := lt4 c
  refine congrArg (X c) (eq_ix ?_ ?_)
  · rw [o0, s0]; omega
  · rw [o1, s1]; omega

end Cert.Exchange

end
-- ==== Proof.Protocol.lean ====
/-
# The protocol: which semaphore pays for what

Every semaphore of the kernel is used for one round. A device's barrier semaphore receives a unit from `yp c`, which hands
over the six pieces of `yp c`'s result that `c` is to fill, and a unit from `xp c`, which hands over the five pieces of
`xp c`'s result that `c` is to forward into. Each transfer pays its sender's semaphore, which hands the source back, and its
receiver's, which hands over the piece with its final contents.
-/
module

public import proofs.«01_k».proof.Proof.Contents
public import proofs.«01_k».proof.Proof.Gen.KernelIdeal.Launch
public import proofs.«01_k».proof.Proof.Gen.KernelIdeal.Points
public import Idealize.ShloMosaic.Lib.Pipeline.Launch
public import Idealize.ShloMosaic.Lib.Pipeline.BigSepL
public import Idealize.ShloMosaic.Lib.Tactic

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state: the pipeline's, and the exchange's with two duty names -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The semaphores -/

/-- The names of a device's DMA semaphores: first exchange, sender's and receiver's; forwarding, sender's and receiver's. -/
abbrev J : Type := (Fin 6 ⊕ Fin 6) ⊕ (Fin 5 ⊕ Fin 5)
abbrev jSA (k : Fin 6) : J := .inl (.inl k)
abbrev jRA (k : Fin 6) : J := .inl (.inr k)
abbrev jSB (k : Fin 5) : J := .inr (.inl k)
abbrev jRB (k : Fin 5) : J := .inr (.inr k)

def jsem : J → SemLoc sig
  | .inl (.inl k) => .dma (sA k)
  | .inl (.inr k) => .dma (rA k)
  | .inr (.inl k) => .dma (sB k)
  | .inr (.inr k) => .dma (rB k)

theorem jsem_injective : Function.Injective jsem := by decide +kernel
theorem jsem_ne_bar (j : J) : jsem j ≠ .reg barS := by rcases j with (k | k) | (k | k) <;> exact fun h => by cases h

open Classical in
/-- The name of a semaphore, if it is one of these. -/
def jOf (s : SemLoc sig) : Option J := if h : ∃ j, jsem j = s then some h.choose else none

theorem jOf_jsem (j : J) : jOf (jsem j) = some j := by
  have h : ∃ j', jsem j' = jsem j := ⟨j, rfl⟩
  rw [jOf, dif_pos h]; exact congrArg some (jsem_injective h.choose_spec)
theorem jOf_none {s : SemLoc sig} (h : ∀ j, jsem j ≠ s) : jOf s = none := dif_neg fun ⟨j, hj⟩ => h j hj
theorem jOf_bar : jOf (.reg barS) = none := jOf_none jsem_ne_bar

abbrev barCell (c : Dev nD) : GSem nD τ sig := ((c : Thread nD τ), .reg barS)
abbrev jCell (c : Dev nD) (j : J) : GSem nD τ sig := ((c : Thread nD τ), jsem j)

/-- What a transfer of 32 rows, and of 192 rows, adds to a DMA semaphore. -/
def n32 : ℕ := (oCh 0 0).view.dmaCredit
def n192 : ℕ := (oBig 0).view.dmaCredit
theorem n32_pos : 0 < n32 := View.dmaCredit_pos _ (by decide)
theorem n192_pos : 0 < n192 := View.dmaCredit_pos _ (by decide)
theorem credit_oCh (c : Dev nD) (k : Fin 5) : (oCh c k).view.dmaCredit = n32 := rfl
theorem credit_fCh (c : Dev nD) (k : Fin 5) : (fCh c k).view.dmaCredit = n32 := rfl
theorem credit_xCh (c : Dev nD) (k : Fin 5) : (xCh c k).view.dmaCredit = n32 := rfl
theorem credit_oBig (c : Dev nD) : (oBig c).view.dmaCredit = n192 := rfl
theorem credit_xBig (c : Dev nD) : (xBig c).view.dmaCredit = n192 := rfl

def amtA (k : Fin 6) : ℕ := if k = 5 then n192 else n32
theorem amtA_pos (k : Fin 6) : 0 < amtA k := by unfold amtA; split; exacts [n192_pos, n32_pos]
theorem amtA_castSucc (k : Fin 5) : amtA k.castSucc = n32 := if_neg (castSucc_ne k)
theorem amtA_last : amtA 5 = n192 := if_pos rfl

def jAmt : J → ℕ
  | .inl (.inl k) => amtA k
  | .inl (.inr k) => amtA k
  | .inr _ => n32
theorem jAmt_pos (j : J) : 0 < jAmt j := by
  rcases j with (k | k) | (k | k)
  exacts [amtA_pos k, amtA_pos k, n32_pos, n32_pos]

/-! ## What the semaphores hand over -/

/-- Device `c` holds the elements `S` of its result, or of its argument, with the contents `f`. -/
def oPts (c : Dev nD) (S : Finset S1024x512.Idx) (f : OBuf F) : sProp 𝕄 :=
  ((c : Thread nD τ).loc cc0_stg1_0) ↦[S]{fullShare} f
def xPts (c : Dev nD) (S : Finset S512x1024.Idx) (f : XBuf F) : sProp 𝕄 :=
  ((c : Thread nD τ).loc cc0_stg0_0) ↦[S]{fullShare} f
/-- The same with contents of no interest. -/
def oAny (c : Dev nD) (S : Finset S1024x512.Idx) : sProp 𝕄 := iprop(∃ f, oPts (F := F) c S f)

omit [FloatOps F] in
instance oPts_storable (c : Dev nD) (S) (f) : BI.Storable (upEmb : UEmb _ 𝕄) (oPts (F := F) c S f) := by unfold oPts; infer_instance
omit [FloatOps F] in
instance xPts_storable (c : Dev nD) (S) (f) : BI.Storable (upEmb : UEmb _ 𝕄) (xPts (F := F) c S f) := by unfold xPts; infer_instance
omit [FloatOps F] in
instance oAny_storable (c : Dev nD) (S) : BI.Storable (upEmb : UEmb _ 𝕄) (oAny (F := F) c S) := by unfold oAny; infer_instance

omit [FloatOps F] in
theorem oPts_congr (c : Dev nD) {S : Finset S1024x512.Idx} {f g : OBuf F} (h : ∀ i ∈ S, f i = g i) : oPts c S f = oPts c S g := by
  unfold oPts; exact pointsTo_congr h

variable (X : Dev nD → XBuf F)

def jPay (c : Dev nD) : J → sProp 𝕄
  | .inl (.inl k) => xPts c (xReg c k) (X c)
  | .inl (.inr k) => oPts c (aReg c k) (outAt X c)
  | .inr (.inl k) => oPts c (aReg c k.castSucc) (outAt X c)
  | .inr (.inr k) => oPts c (fReg c k) (outAt X c)

/-- What the unit from `yp c` (`false`) and the one from `xp c` (`true`) hand over. -/
def barPay (c : Dev nD) : Bool → sProp 𝕄
  | false => bigSep Finset.univ fun k : Fin 6 => oAny (F := F) (yp c) (aReg (yp c) k)
  | true => bigSep Finset.univ fun k : Fin 5 => oAny (F := F) (xp c) (fReg (xp c) k)

instance jPay_storable (c : Dev nD) (j : J) : BI.Storable (upEmb : UEmb _ 𝕄) (jPay X c j) := by
  rcases j with (k | k) | (k | k) <;> unfold jPay <;> infer_instance
omit [FloatOps F] in
instance barPay_storable (c : Dev nD) (b : Bool) : BI.Storable (upEmb : UEmb _ 𝕄) (barPay (F := F) c b) := by
  cases b <;> unfold barPay <;> infer_instance

/-- The payload of a semaphore by its name: none of the DMA semaphores means the barrier. -/
def payOf (c : Dev nD) : Option J → Bool → sProp 𝕄
  | some j, _ => jPay X c j
  | none, b => barPay c b
def amtOf : Option J → ℕ
  | some j => jAmt j
  | none => 1
theorem amtOf_pos (o : Option J) : 0 < amtOf o := by cases o; exacts [Nat.one_pos, jAmt_pos _]

/-- One round on each semaphore. -/
def sched : Rounds.Schedule (GSem nD τ sig) Bool 𝕄 where
  duties g r := if r = 0 ∧ g.1.2 = .tc then (if g.2 = .reg barS then Finset.univ else if (jOf g.2).isSome then {false} else ∅) else ∅
  amount g _ _ := amtOf (jOf g.2)
  payload g _ d := payOf X g.1.1 (jOf g.2) d
  amount_pos g _ _ _ := amtOf_pos _

instance sched_payload_storable (g : GSem nD τ sig) (r : ℕ) (d : Bool) :
    BI.Storable (upEmb : UEmb _ 𝕄) ((sched X).payload g r d) := by
  show BI.Storable upEmb (payOf X g.1.1 (jOf g.2) d)
  cases jOf g.2 <;> unfold payOf <;> infer_instance

section Facts
variable (c : Dev nD) (j : J)

theorem duties_bar : (sched X).duties (barCell c) 0 = Finset.univ := by
  dsimp only [sched]; rw [if_pos ⟨rfl, rfl⟩, if_pos rfl]
theorem duties_j : (sched X).duties (jCell c j) 0 = {false} := by
  dsimp only [sched]; rw [if_pos ⟨rfl, rfl⟩, if_neg (jsem_ne_bar j), jOf_jsem]; rfl
theorem duties_later (g : GSem nD τ sig) : ∀ r, 1 ≤ r → (sched X).duties g r = ∅ := fun r hr => by
  dsimp only [sched]; rw [if_neg]; rintro ⟨h, -⟩; omega
theorem mem_duties_bar (b : Bool) : b ∈ (sched X).duties (barCell c) 0 := by rw [duties_bar]; exact Finset.mem_univ _
theorem mem_duties_j : false ∈ (sched X).duties (jCell c j) 0 := by rw [duties_j]; exact Finset.mem_singleton_self _
theorem amount_bar (b : Bool) : (sched X).amount (barCell c) 0 b = 1 := by dsimp only [sched]; rw [jOf_bar]; rfl
theorem amount_j (b : Bool) : (sched X).amount (jCell c j) 0 b = jAmt j := by dsimp only [sched]; rw [jOf_jsem]; rfl
theorem payload_bar (b : Bool) : (sched X).payload (barCell c) 0 b = barPay c b := by dsimp only [sched]; rw [jOf_bar]; rfl
theorem payload_j (b : Bool) : (sched X).payload (jCell c j) 0 b = jPay X c j := by dsimp only [sched]; rw [jOf_jsem]; rfl
theorem expect_bar : (sched X).expect (barCell c) 0 = 2 := by
  unfold Schedule.expect Schedule.amountOf
  rw [duties_bar, Finset.sum_congr rfl fun b _ => amount_bar X c b]; rfl
theorem expect_j : (sched X).expect (jCell c j) 0 = jAmt j := by
  unfold Schedule.expect Schedule.amountOf
  rw [duties_j, Finset.sum_singleton, amount_j]
theorem rest_bar : bigSep ((sched X).duties (barCell c) 0 \ ∅) (fun d => (sched X).payload (barCell c) 0 d)
    = iprop(barPay c false ∗ barPay c true) := by
  rw [Finset.sdiff_empty, duties_bar, bigSep_univ_eq_bigSepL [false, true] (by decide) (by decide), bigSepL_cons_cons, bigSepL_singleton,
    payload_bar, payload_bar]
  rfl
theorem rest_j : bigSep ((sched X).duties (jCell c j) 0 \ ∅) (fun d => (sched X).payload (jCell c j) 0 d) = jPay X c j := by
  rw [Finset.sdiff_empty, duties_j, bigSep_singleton, payload_j]

end Facts

/-! ## Who owes what, and in which order one may wait -/

/-- The units device `c` owes for the pieces `l` it sends to `yp c`, and for those it forwards to `xp c`. -/
def owA (c : Dev nD) (l : List (Fin 5)) : CellTallies nD τ sig Unit := (l.map fun k => tallyAt (jCell (yp c) (jRA k.castSucc)) () n32).sum
def owBig (c : Dev nD) : CellTallies nD τ sig Unit := tallyAt (jCell (yp c) (jRA 5)) () n192
def owB (c : Dev nD) (l : List (Fin 5)) : CellTallies nD τ sig Unit := (l.map fun k => tallyAt (jCell (xp c) (jRB k)) () n32).sum

abbrev five : List (Fin 5) := [0, 1, 2, 3, 4]

/-- After the handshake; after its first signal; at the start. -/
def O₂ (c : Dev nD) : CellTallies nD τ sig Unit := (owB c five + owBig c) + owA c five
def O₁ (c : Dev nD) : CellTallies nD τ sig Unit := O₂ c + tallyAt (barCell (xp c)) () 1
def O₀ (c : Dev nD) : CellTallies nD τ sig Unit := O₁ c + tallyAt (barCell (yp c)) () 1

theorem owA_cons (c : Dev nD) (k : Fin 5) (l : List (Fin 5)) : owA c (k :: l) = owA c l + tallyAt (jCell (yp c) (jRA k.castSucc)) () n32 := by
  unfold owA; rw [List.map_cons, List.sum_cons, add_comm]
theorem owB_cons (c : Dev nD) (k : Fin 5) (l : List (Fin 5)) : owB c (k :: l) = owB c l + tallyAt (jCell (xp c) (jRB k)) () n32 := by
  unfold owB; rw [List.map_cons, List.sum_cons, add_comm]
theorem owA_nil (c : Dev nD) : owA c [] = 0 := rfl
theorem owB_nil (c : Dev nD) : owB c [] = 0 := rfl

def L (g : GSem nD τ sig) : Finset Unit := if g.1.2 = .tc then {()} else ∅
theorem L_of_ne (g : GSem nD τ sig) (h : g.1.2 ≠ .tc) : L g = ∅ := if_neg h
theorem mem_L (c : Dev nD) (sm : SemLoc sig) : () ∈ L ((c : Thread nD τ), sm) := by rw [L, if_pos rfl]; exact Finset.mem_singleton_self _

/-- Receivers' semaphores of the first exchange lie above the barrier, those of the forwarding above them. -/
def jLv : J → ℕ
  | .inl (.inl _) => 0
  | .inl (.inr _) => 2
  | .inr (.inl _) => 0
  | .inr (.inr _) => 3
def lv (g : GSem nD τ sig) (_ : Unit) : ℕ := if g.2 = .reg barS then 1 else match jOf g.2 with | some j => jLv j | none => 0
theorem lv_bar (c : Dev nD) : lv (barCell c) () = 1 := if_pos rfl
theorem lv_j (c : Dev nD) (j : J) : lv (jCell c j) () = jLv j := by rw [lv, if_neg (jsem_ne_bar j), jOf_jsem]

/-- Everything owed in `O` lies above level `b`. -/
def Above (b : ℕ) (O : CellTallies nD τ sig Unit) : Prop := ∀ (g : GSem nD τ sig) (u : Unit), 0 < O g u → u ∈ L g ∧ b < lv g u

theorem above_zero (b : ℕ) : Above b 0 := fun g u h => absurd h (Nat.lt_irrefl 0)
theorem above_add {b : ℕ} {O O' : CellTallies nD τ sig Unit} (h : Above b O) (h' : Above b O') : Above b (O + O') := fun g u hg => by
  rw [Pi.add_apply, Finsupp.add_apply] at hg
  by_cases h0 : 0 < O g u
  · exact h g u h0
  · exact h' g u (by omega)
theorem above_tally {b : ℕ} (c : Dev nD) (sm : SemLoc sig) (n : ℕ) (h : b < lv ((c : Thread nD τ), sm) ()) :
    Above b (tallyAt ((c : Thread nD τ), sm) () n) := fun g u hg => by
  rw [tallyAt_apply] at hg
  by_cases hh : g = ((c : Thread nD τ), sm) ∧ u = ()
  · obtain ⟨rfl, rfl⟩ := hh; exact ⟨mem_L c sm, h⟩
  · rw [if_neg hh] at hg; exact absurd hg (Nat.lt_irrefl 0)
theorem above_owA (c : Dev nD) (l : List (Fin 5)) : Above 1 (owA c l) := by
  induction l with
  | nil => exact above_zero 1
  | cons k l ih => rw [owA_cons]; exact above_add ih (above_tally _ _ _ (by rw [lv_j]; exact (by decide : 1 < 2)))
theorem above_owB (c : Dev nD) (l : List (Fin 5)) : Above 2 (owB c l) := by
  induction l with
  | nil => exact above_zero 2
  | cons k l ih => rw [owB_cons]; exact above_add ih (above_tally _ _ _ (by rw [lv_j]; exact (by decide : 2 < 3)))
theorem above_mono {b b' : ℕ} (h : b' ≤ b) {O : CellTallies nD τ sig Unit} (hO : Above b O) : Above b' O :=
  fun g u hg => ⟨(hO g u hg).1, lt_of_le_of_lt h (hO g u hg).2⟩
theorem above_O₂ (c : Dev nD) : Above 1 (O₂ c) :=
  above_add (above_add (above_mono (by decide) (above_owB c _)) (above_tally _ _ _ (by rw [lv_j]; decide))) (above_owA c _)
theorem above_O₀ (c : Dev nD) : Above 0 (O₀ c) :=
  above_add (above_add (above_mono (by decide) (above_O₂ c)) (above_tally _ _ _ (by rw [lv_bar]; decide))) (above_tally _ _ _ (by rw [lv_bar]; decide))

omit [FloatOps F] in
/-- A wait at a semaphore below everything owed is allowed. -/
theorem mayWait (c : Dev nD) (sm : SemLoc sig) (b : ℕ) (hb : lv ((c : Thread nD τ), sm) () ≤ b) {O : CellTallies nD τ sig Unit} (hO : Above b O) :
    (levAts L lv : sProp 𝕄) ⊢ MayWait (c : Thread nD τ) sm () O :=
  MayOwe.of_cut (L := L) (lev := lv) b (fun p hp => by rw [Finset.mem_singleton.mp hp]; exact mem_L c sm) (fun g u hg => (hO g u hg).1)
    (fun p hp => by rw [Finset.mem_singleton.mp hp]; exact hb) (fun g u hg => (hO g u hg).2)

end Cert.Exchange

end
-- ==== Proof.Steps.lean ====
/-
# The phases of the body, one at a time

What one transfer, one wait, the handshake and the local copy need and give, and how a loop over the chunks follows from
one round of it.
-/
module

public import proofs.«01_k».proof.Proof.Protocol

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- A program of device `c`, run to a postcondition. -/
abbrev wpc (c : Dev nD) (p : Tc F PUnit) (Q : PUnit → sProp 𝕄) : sProp 𝕄 :=
  wp frame (wpE (defs₀ (F := F)) 𝒱₀ (c : Thread nD τ) none) Set.univ p Q

/-! ## What every device knows -/

/-- The semaphores under protocol: the barrier and the DMA semaphores. -/
abbrev I : Type := Unit ⊕ J
def csem : I → SemLoc sig
  | .inl _ => .reg barS
  | .inr j => jsem j
def kcell (p : Dev nD × I) : GSem nD τ sig := ((p.1 : Thread nD τ), csem p.2)

variable (X : Dev nD → XBuf F) (K : Dev nD × I → ℕ)

/-- Every semaphore's invariant, and that its round has begun. -/
def records : sProp 𝕄 :=
  iprop((bigSep Finset.univ fun p : Dev nD × I => cellInv ER (sched X) (K p) (kcell p))
    ∗ (bigSep Finset.univ fun p : Dev nD × I => reached ER (kcell p) 0))
instance records_persistent : BI.Persistent (records X K) := by
  unfold records; infer_instance
/-- The same with the order of the semaphores. -/
def ctx : sProp 𝕄 := iprop(records X K ∗ levAts L lv)
instance ctx_persistent : BI.Persistent (ctx X K) := by unfold ctx; infer_instance

omit [FloatOps F] in
theorem pick {A : Type} [Fintype A] [DecidableEq A] (Φ : A → sProp 𝕄) (a : A) : (bigSep Finset.univ Φ : sProp 𝕄) ⊢ Φ a :=
  BI.bigSep_elim (Finset.mem_univ a)
theorem ctx_inv (p : Dev nD × I) : ctx X K ⊢ cellInv ER (sched X) (K p) (kcell p) := by
  unfold ctx records; iintro ⟨⟨H, -⟩, -⟩
  iapply (pick (fun p : Dev nD × I => cellInv ER (sched X) (K p) (kcell p)) p); iexact H
theorem ctx_reached (p : Dev nD × I) : ctx X K ⊢ reached ER (kcell p) 0 := by
  unfold ctx records; iintro ⟨⟨-, H⟩, -⟩
  iapply (pick (fun p : Dev nD × I => (reached ER (kcell p) 0 : sProp 𝕄)) p); iexact H
theorem ctx_lev : ctx X K ⊢ levAts L lv := by unfold ctx; iintro ⟨-, H⟩; iexact H

/-- Device `c` owes `O`. -/
def owesW (c : Dev nD) (O : CellTallies nD τ sig Unit) : sProp 𝕄 := iprop(∃ W, owes (c : Thread nD τ) O W)

abbrev tokJ (c : Dev nD) (j : J) : sProp 𝕄 := dutyTok ER (jCell c j) 0 false
abbrev posJ (c : Dev nD) (j : J) : sProp 𝕄 := atPos ER (jCell c j) 0 ∅ 0
abbrev credJ (c : Dev nD) (j : J) : sProp 𝕄 := cred (tallyAt (jCell c j) () (jAmt j))
abbrev zeroJ (c : Dev nD) (j : J) : sProp 𝕄 := semVal (jCell c j) 0

/-! ## One transfer, one wait -/

/-- A transfer from device `c` to device `n`, paying `c`'s semaphore `j` and `n`'s `j'`. -/
theorem step_send {s : Shape} (c n n' : Dev nD) (hn : n' = n) (j j' : J) (hj : jAmt j = jAmt j')
    {src dst : Memref sig .tc .vmem s .bf16} {fs : Buf (Elt F) (src.view.loc (c : Thread nD τ))} {S : Finset S1024x512.Idx}
    (O : CellTallies nD τ sig Unit)
    {hsc : (dst : Memref sig (Dev.tc n' : Thread nD τ).2.kind .vmem s .bf16).view.ref.isScScratch = false}
    {hsrc : src.view.WordExact} {hdst : dst.view.WordExact}
    {hsem : DmaTarget.Typed .vmem (jsem j') (.remote (Dev.tc n' : Thread nD τ) (dst : Memref sig .tc .vmem s .bf16) (jsem j) hsc)}
    (hN : dst.view.amount (jsem j') = jAmt j')
    (hs : jPay X c j = (src.view.loc (c : Thread nD τ) ↦[src.view.set]{fullShare} fs))
    (hd : oAny (F := F) n S = iprop(∃ fd, (dst.view.loc (n : Thread nD τ) ↦[dst.view.set]{fullShare} fd)))
    (hp : ∀ fd : Buf (Elt F) (dst.view.loc (n : Thread nD τ)),
      (dst.view.loc (n : Thread nD τ) ↦[dst.view.set]{fullShare} (dst.view.write (Elt F) fd (src.view.read (Elt F) fs) Finset.univ)) ⊢ jPay X n j') :
    iprop(ctx X K ∗ owesW c (O + tallyAt (jCell n j') () (jAmt j')) ∗ jPay X c j ∗ oAny (F := F) n S ∗ tokJ c j ∗ tokJ n j')
      ⊢ wpc c (Prog.lift (.enqueueDma src (.remote (Dev.tc n' : Thread nD τ) dst (jsem j) hsc) (jsem j') hsrc hdst hsem))
          (fun _ => iprop(owesW c O ∗ credJ c j)) := by
  subst hn
  rw [hs, hd]
  unfold owesW
  iintro ⟨#Hctx, ⟨%W, HO⟩, Hs, ⟨%fd, Hd⟩, Htc, Htn⟩
  simp only [Prog.lift]
  iapply (Rounds.wp_send_pointsTo 𝒱₀ ER (sched X) (c : Thread nD τ) none (κ₁ := K (c, .inr j)) (κ₂ := K (n', .inr j'))
    (r₁ := 0) (r₂ := 0) (d₁ := false) (d₂ := false) (fd := fd) (mem_duties_j X c j) (mem_duties_j X n' j')
    () () (jAmt j') hN ((amount_j X c j false).trans hj) (amount_j X n' j' false) O rfl (W := W)
    (by rw [payload_j, hs]) (by rw [payload_j]; exact hp fd)) $$ [HO Hs Hd Htc Htn]
  · isplitr; · iapply (ctx_inv X K (c, .inr j)); iexact Hctx
    isplitr; · iapply (ctx_inv X K (n', .inr j')); iexact Hctx
    isplitl [Hs]; · iexact Hs
    isplitl [Hd]; · iexact Hd
    isplitl [HO]; · iexact HO
    isplitl [Htc]; · iexact Htc
    isplitr; · iapply (ctx_reached X K (c, .inr j)); iexact Hctx
    isplitl [Htn]; · iexact Htn
    iapply (ctx_reached X K (n', .inr j')); iexact Hctx
  iintro ⟨Hc, HO⟩
  rw [wp_ret]; imodintro
  isplitl [HO]; · iexists W; iexact HO
  unfold credJ; rw [hj]; iexact Hc

/-- A wait for everything a semaphore of `c` is due: its payload, and the semaphore back at zero. -/
theorem step_wait (c : Dev nD) (j : J) (b : ℕ) (hb : jLv j ≤ b) {O : CellTallies nD τ sig Unit} (hO : Above b O)
    {w : TpuEff nD τ sig (Elt F) Λ₀ .tc PUnit} {k' : ℕ} (hk : k' = jAmt j)
    (hw : ∀ Q : PUnit → sProp 𝕄, wpE (defs₀ (F := F)) 𝒱₀ (c : Thread nD τ) none Set.univ w Q = waitSpec (c : Thread nD τ) Set.univ (jsem j) k' Q) :
    iprop(ctx X K ∗ owesW c O ∗ credJ c j ∗ posJ c j) ⊢ wpc c (Prog.lift w) (fun _ => iprop(owesW c O ∗ jPay X c j ∗ zeroJ c j)) := by
  subst hk
  unfold owesW
  iintro ⟨#Hctx, ⟨%W, HO⟩, Hc, Hat⟩
  simp only [Prog.lift]
  iapply (Rounds.wp_wait_rest_token 𝒱₀ ER (sched X) (c : Thread nD τ) none (κ := K (c, .inr j)) hw (Set.mem_univ _) ()
    (O := O) (W := W) (R := 0) (m := 0) (T := ∅) (by rw [Nat.zero_add, expect_j])) $$ [HO Hc Hat]
  · isplitr; · iapply (ctx_inv X K (c, .inr j)); iexact Hctx
    isplitl [Hc]; · iexact Hc
    isplitl [HO]; · iexact HO
    isplitr; · iapply (mayWait c (jsem j) b (by rw [lv_j]; exact hb) hO); iapply (ctx_lev X K); iexact Hctx
    iexact Hat
  iintro ⟨HO, Hat, -, Hpay⟩
  ihave Hp := (Entails.of_eq (rest_j X c j)) $$ Hpay
  imod (Rounds.cell_close ER (sched X) (Set.mem_univ (K (c, .inr j))) (fun h => h) (R := 0 + 1) (duties_later X (jCell c j))) $$ [Hat] with Hz
  · isplitr; · iapply (ctx_inv X K (c, .inr j)); iexact Hctx
    iexact Hat
  rw [wp_ret]; imodintro
  isplitl [HO]; · iexists _; iexact HO
  isplitl [Hp] <;> iassumption

/-! ## The handshake -/

theorem barPay_yp (c : Dev nD) : barPay (F := F) (yp c) false = bigSep Finset.univ fun k : Fin 6 => oAny (F := F) c (aReg c k) := by
  unfold barPay; rw [yp_yp]
theorem barPay_xp (c : Dev nD) : barPay (F := F) (xp c) true = bigSep Finset.univ fun k : Fin 5 => oAny (F := F) c (fReg c k) := by
  unfold barPay; rw [xp_xp]

theorem handshake_spec (c : Dev nD) :
    iprop(ctx X K ∗ owesW c (O₀ c) ∗ dutyTok ER (barCell (yp c)) 0 false ∗ dutyTok ER (barCell (xp c)) 0 true
        ∗ (bigSep Finset.univ fun k : Fin 6 => oAny (F := F) c (aReg c k)) ∗ (bigSep Finset.univ fun k : Fin 5 => oAny (F := F) c (fReg c k))
        ∗ cred (tallyAt (barCell c) () 2) ∗ atPos ER (barCell c) 0 ∅ 0)
      ⊢ wpc c (handshake c) (fun _ => iprop(owesW c (O₂ c) ∗ barPay c false ∗ barPay c true ∗ semVal (barCell c) 0)) := by
  unfold handshake owesW
  simp only [semSignalWord, semWaitWord, Prog.lift, Prog.bind_op, Prog.bind_ret, Prog.pure_eq_ret, dev1_eq c, dev2_eq c]
  iintro ⟨#Hctx, ⟨%W, HO⟩, HtY, HtX, HpY, HpX, Hc, Hat⟩
  iapply (Rounds.wp_signal 𝒱₀ ER (sched X) (c : Thread nD τ) none (dst := (yp c : Thread nD τ)) (κ := K (yp c, .inl ()))
      (d := false) (mem_duties_bar X (yp c) false) ((amount_bar X (yp c) false).trans (by decide)) () (O₁ c) rfl) $$ [HO HtY HpY]
  · isplitr; · iapply (ctx_inv X K (yp c, .inl ())); iexact Hctx
    isplitl [HO]; · iexact HO
    isplitl [HtY]; · iexact HtY
    isplitl [HpY]; · rw [payload_bar, barPay_yp]; iexact HpY
    iapply (ctx_reached X K (yp c, .inl ())); iexact Hctx
  iintro HO
  iapply (Rounds.wp_signal 𝒱₀ ER (sched X) (c : Thread nD τ) none (dst := (xp c : Thread nD τ)) (κ := K (xp c, .inl ()))
      (d := true) (mem_duties_bar X (xp c) true) ((amount_bar X (xp c) true).trans (by decide)) () (O₂ c) rfl) $$ [HO HtX HpX]
  · isplitr; · iapply (ctx_inv X K (xp c, .inl ())); iexact Hctx
    isplitl [HO]; · iexact HO
    isplitl [HtX]; · iexact HtX
    isplitl [HpX]; · rw [payload_bar, barPay_xp]; iexact HpX
    iapply (ctx_reached X K (xp c, .inl ())); iexact Hctx
  iintro HO
  iapply (Rounds.wp_wait_rest_token 𝒱₀ ER (sched X) (c : Thread nD τ) none (κ := K (c, .inl ()))
      (wpE_semWait_eq 𝒱₀ (c : Thread nD τ) none Set.univ) (Set.mem_univ _) () (O := O₂ c) (W := W) (R := 0) (m := 0) (T := ∅)
      (by rw [expect_bar]; decide)) $$ [Hc HO Hat]
  · isplitr; · iapply (ctx_inv X K (c, .inl ())); iexact Hctx
    isplitl [Hc]; · iexact Hc
    isplitl [HO]; · iexact HO
    isplitr; · iapply (mayWait c (.reg barS) 1 (le_of_eq (lv_bar c)) (above_O₂ c)); iapply (ctx_lev X K); iexact Hctx
    iexact Hat
  iintro ⟨HO, Hat, -, Hpay⟩
  ihave Hp := (Entails.of_eq (rest_bar X c)) $$ Hpay
  icases Hp with ⟨HpY, HpX⟩
  imod (Rounds.cell_close ER (sched X) (Set.mem_univ (K (c, .inl ()))) (fun h => h) (R := 0 + 1) (duties_later X (barCell c))) $$ [Hat] with Hz
  · isplitr; · iapply (ctx_inv X K (c, .inl ())); iexact Hctx
    iexact Hat
  rw [wp_ret]; imodintro
  isplitl [HO]; · iexists _; iexact HO
  isplitl [HpY]; · iexact HpY
  isplitl [HpX] <;> iassumption

/-! ## The local copy -/

theorem copyLoc_spec (c : Dev nD) (S : Finset S512x1024.Idx) (hS : (xLoc c).set ⊆ S) :
    iprop(xPts c S (X c) ∗ oAny (F := F) c (hReg c)) ⊢ wpc c (copyLoc c) (fun _ => iprop(xPts c S (X c) ∗ oPts c (hReg c) (outAt X c))) := by
  unfold copyLoc oAny
  simp only [Prog.lift, Prog.bind_op, Prog.bind_ret]
  unfold xPts oPts
  iintro ⟨Hx, ⟨%f, Ho⟩⟩
  have ho : (oM.access (oLoc c) : View sig .tc _ _ _).set ⊆ hReg c := by
    rw [show (oM.access (oLoc c) : View sig .tc _ _ _).set = (oLoc c).set from View.set_slice_whole _ _, oLoc_set]
  iapply (wp_load_rect 𝒱₀ (c : Thread nD τ) none Set.univ (m := xM) (r := xLoc c)
    (by rw [show (xM.access (xLoc c) : View sig .tc _ _ _).set = (xLoc c).set from View.set_slice_whole _ _]; exact hS)) $$ Hx
  iintro Hx
  iapply (wp_load_rect 𝒱₀ (c : Thread nD τ) none Set.univ (m := oM) (r := oLoc c) ho) $$ Ho
  iintro Ho
  iapply (wp_store 𝒱₀ (c : Thread nD τ) none Set.univ (m := oM) (r := oLoc c) (Mk := Finset.univ) ho) $$ Ho
  iintro Ho
  rw [wp_ret]; imodintro
  isplitl [Hx]; · iexact Hx
  iapply (Entails.of_eq (pointsTo_congr (value_loc X c f))); iexact Ho

/-! ## Loops -/

theorem wp_seq (c : Dev nD) (p q : Tc F PUnit) (Q : PUnit → sProp 𝕄) :
    wpc c p (fun _ => wpc c q Q) ⊢ wpc c (p >>= fun _ => q) Q :=
  Entails.of_eq (wp_bind ..).symm

/-- A loop over a list: `R l` holds while `l` is still to do; entry `k` turns `Pre k` into `Post k`. -/
theorem wp_forL {ι : Type} (c : Dev nD) (f : ι → Tc F PUnit) (R : List ι → sProp 𝕄) (Pre Post : ι → sProp 𝕄)
    (h : ∀ k l, iprop(R (k :: l) ∗ Pre k) ⊢ wpc c (f k) (fun _ => iprop(R l ∗ Post k))) :
    ∀ l, iprop(R l ∗ bigSepL l Pre) ⊢ wpc c (forL f l) (fun _ => iprop(R [] ∗ bigSepL l Post))
  | [] => by
    rw [forL, show (pure ⟨⟩ : Tc F PUnit) = Prog.ret ⟨⟩ from rfl, bigSepL_nil, bigSepL_nil]
    unfold wpc; rw [wp_ret]; iintro H; imodintro; iexact H
  | k :: l => by
    rw [forL, bigSepL_cons', bigSepL_cons']
    iintro ⟨HR, HP, HL⟩
    iapply wp_seq
    iapply wp_wand_r
    isplitl [HR HP]
    · iapply (h k l); isplitl [HR] <;> iassumption
    iintro %_u ⟨HR, HQ⟩
    iapply wp_wand_r
    isplitl [HR HL]
    · iapply (wp_forL c f R Pre Post h l); isplitl [HR] <;> iassumption
    iintro %_v ⟨HR, HL⟩
    isplitl [HR]; · iexact HR
    isplitl [HQ] <;> iassumption

end Cert.Exchange

end
-- ==== Proof.Phases.lean ====
/-
# Each phase of the body

What the transfers and waits of one chunk need and give, and from them what each loop needs and gives.
-/
module

public import proofs.«01_k».proof.Proof.Steps

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → XBuf F) (K : Dev nD × I → ℕ) (c : Dev nD)

/-! ## One chunk -/

theorem sendCh_spec (k : Fin 5) (O : CellTallies nD τ sig Unit) :
    iprop(ctx X K ∗ owesW c (O + tallyAt (jCell (yp c) (jRA k.castSucc)) () n32) ∗ xPts c (xReg c k.castSucc) (X c)
        ∗ oAny (F := F) (yp c) (aReg (yp c) k.castSucc) ∗ tokJ c (jSA k.castSucc) ∗ tokJ (yp c) (jRA k.castSucc))
      ⊢ wpc c (sendCh c k) (fun _ => iprop(owesW c O ∗ credJ c (jSA k.castSucc))) := by
  rw [← amtA_castSucc k]
  refine step_send X K c (yp c) (devA c k) (devA_eq c k) (jSA k.castSucc) (jRA k.castSucc) rfl O (src := xCh c k) (dst := oCh c k) (fs := X c) ?_ ?_ ?_ ?_
  · exact (amtA_castSucc k).symm
  · show xPts c (xReg c k.castSucc) (X c) = _
    unfold xPts; rw [xCh_set]
  · unfold oAny oPts; rw [oCh_set]
  · intro fd
    rw [oCh_set]
    exact Entails.of_eq (pointsTo_congr (value_ch X c k fd))

theorem sendBig_spec (O : CellTallies nD τ sig Unit) :
    iprop(ctx X K ∗ owesW c (O + owBig c) ∗ xPts c (xReg c 5) (X c)
        ∗ oAny (F := F) (yp c) (aReg (yp c) 5) ∗ tokJ c (jSA 5) ∗ tokJ (yp c) (jRA 5))
      ⊢ wpc c (sendBig c) (fun _ => iprop(owesW c O ∗ credJ c (jSA 5))) := by
  refine step_send X K c (yp c) _ (dev8_eq c) (jSA 5) (jRA 5) rfl O (src := xBig c) (dst := oBig c) (fs := X c) ?_ ?_ ?_ ?_
  · exact amtA_last.symm
  · show xPts c (xReg c 5) (X c) = _
    unfold xPts; rw [xBig_set]
  · unfold oAny oPts; rw [oBig_set]
  · intro fd
    rw [oBig_set]
    exact Entails.of_eq (pointsTo_congr (value_big X c fd))

theorem fReg_xp (k : Fin 5) : fReg (xp c) k = aReg c k.castSucc := by unfold fReg; rw [xp_xp]

theorem sendFw_spec (k : Fin 5) (O : CellTallies nD τ sig Unit) :
    iprop(ctx X K ∗ owesW c (O + tallyAt (jCell (xp c) (jRB k)) () n32) ∗ oPts c (aReg c k.castSucc) (outAt X c)
        ∗ oAny (F := F) (xp c) (fReg (xp c) k) ∗ tokJ c (jSB k) ∗ tokJ (xp c) (jRB k))
      ⊢ wpc c (sendFw c k) (fun _ => iprop(owesW c O ∗ credJ c (jSB k))) := by
  refine step_send X K c (xp c) (devB c k) (devB_eq c k) (jSB k) (jRB k) rfl O (src := fCh c k) (dst := fCh c k) (fs := outAt X c) ?_ ?_ ?_ ?_
  · rfl
  · show oPts c (aReg c k.castSucc) (outAt X c) = _
    unfold oPts; rw [fCh_set]
  · unfold oAny oPts; rw [fCh_set, fReg_xp]
  · intro fd
    rw [fCh_set, ← fReg_xp]
    exact Entails.of_eq (pointsTo_congr (value_fw X c k fd))

theorem waitRA_spec (k : Fin 5) (l : List (Fin 5)) :
    iprop(ctx X K ∗ owesW c (owB c l) ∗ credJ c (jRA k.castSucc) ∗ posJ c (jRA k.castSucc))
      ⊢ wpc c (waitRA c k) (fun _ => iprop(owesW c (owB c l) ∗ oPts c (aReg c k.castSucc) (outAt X c) ∗ zeroJ c (jRA k.castSucc))) :=
  step_wait X K c (jRA k.castSucc) 2 (le_refl 2) (above_owB c l) (amtA_castSucc k).symm (wpE_waitDma2_eq 𝒱₀ (c : Thread nD τ) none Set.univ)
theorem waitRBig_spec :
    iprop(ctx X K ∗ owesW c 0 ∗ credJ c (jRA 5) ∗ posJ c (jRA 5))
      ⊢ wpc c (waitRBig c) (fun _ => iprop(owesW c 0 ∗ oPts c (aReg c 5) (outAt X c) ∗ zeroJ c (jRA 5))) :=
  step_wait X K c (jRA 5) 2 (le_refl 2) (above_zero 2) amtA_last.symm (wpE_waitDma2_eq 𝒱₀ (c : Thread nD τ) none Set.univ)
theorem waitRB_spec (k : Fin 5) :
    iprop(ctx X K ∗ owesW c 0 ∗ credJ c (jRB k) ∗ posJ c (jRB k))
      ⊢ wpc c (waitRB c k) (fun _ => iprop(owesW c 0 ∗ oPts c (fReg c k) (outAt X c) ∗ zeroJ c (jRB k))) :=
  step_wait X K c (jRB k) 3 (le_refl 3) (above_zero 3) rfl (wpE_waitDma2_eq 𝒱₀ (c : Thread nD τ) none Set.univ)
theorem waitSA_spec (k : Fin 5) :
    iprop(ctx X K ∗ owesW c 0 ∗ credJ c (jSA k.castSucc) ∗ posJ c (jSA k.castSucc))
      ⊢ wpc c (waitSA c k) (fun _ => iprop(owesW c 0 ∗ xPts c (xReg c k.castSucc) (X c) ∗ zeroJ c (jSA k.castSucc))) :=
  step_wait X K c (jSA k.castSucc) 0 (le_refl 0) (above_zero 0) (amtA_castSucc k).symm (wpE_waitDma2_eq 𝒱₀ (c : Thread nD τ) none Set.univ)
theorem waitSBig_spec :
    iprop(ctx X K ∗ owesW c 0 ∗ credJ c (jSA 5) ∗ posJ c (jSA 5))
      ⊢ wpc c (waitSBig c) (fun _ => iprop(owesW c 0 ∗ xPts c (xReg c 5) (X c) ∗ zeroJ c (jSA 5))) :=
  step_wait X K c (jSA 5) 0 (le_refl 0) (above_zero 0) amtA_last.symm (wpE_waitDma2_eq 𝒱₀ (c : Thread nD τ) none Set.univ)
theorem waitSB_spec (k : Fin 5) :
    iprop(ctx X K ∗ owesW c 0 ∗ credJ c (jSB k) ∗ posJ c (jSB k))
      ⊢ wpc c (waitSB c k) (fun _ => iprop(owesW c 0 ∗ oPts c (aReg c k.castSucc) (outAt X c) ∗ zeroJ c (jSB k))) :=
  step_wait X K c (jSB k) 0 (le_refl 0) (above_zero 0) rfl (wpE_waitDma2_eq 𝒱₀ (c : Thread nD τ) none Set.univ)

/-! ## The loops -/

omit [FloatOps F] in
theorem bigSep_five (Φ : Fin 5 → sProp 𝕄) : bigSep Finset.univ Φ = bigSepL five Φ := bigSep_univ_eq_bigSepL five (by decide) (by decide) Φ

omit [FloatOps F] in
/-- Six pieces are the five chunks and the last one. -/
theorem bigSep_six (Φ : Fin 6 → sProp 𝕄) : bigSep Finset.univ Φ = iprop((bigSep Finset.univ fun k : Fin 5 => Φ k.castSucc) ∗ Φ 5) := by
  rw [bigSep_univ_eq_bigSepL (five.map Fin.castSucc ++ [5]) (by decide) (by decide), bigSepL_append, bigSepL_map, bigSepL_singleton, bigSep_five]

/-- A loop over the five chunks, what is still owed given for each list of chunks to do. -/
theorem wp_five (f : Fin 5 → Tc F PUnit) (O : List (Fin 5) → CellTallies nD τ sig Unit) (Pre Post : Fin 5 → sProp 𝕄)
    (h : ∀ k l, iprop(ctx X K ∗ owesW c (O (k :: l)) ∗ Pre k) ⊢ wpc c (f k) (fun _ => iprop(owesW c (O l) ∗ Post k))) :
    iprop(ctx X K ∗ owesW c (O five) ∗ bigSep Finset.univ Pre) ⊢ wpc c (forL f five) (fun _ => iprop(owesW c (O []) ∗ bigSep Finset.univ Post)) := by
  rw [bigSep_five, bigSep_five]
  iintro ⟨#Hctx, HO, HP⟩
  iapply wp_wand_r
  isplitl [HO HP]
  · iapply (wp_forL c f (fun l => iprop(ctx X K ∗ owesW c (O l))) Pre Post (fun k l => by
      iintro ⟨⟨#Hctx, HO⟩, HP⟩
      iapply wp_wand_r
      isplitl [HO HP]
      · iapply (h k l); isplitr; · iexact Hctx
        isplitl [HO] <;> iassumption
      iintro %_u ⟨HO, HQ⟩
      isplitl [HO]
      · isplitr; · iexact Hctx
        iexact HO
      iexact HQ) five)
    isplitl [HO]
    · isplitr; · iexact Hctx
      iexact HO
    iexact HP
  iintro %_u ⟨⟨-, HO⟩, HQ⟩
  isplitl [HO] <;> iassumption

theorem sendA_loop :
    iprop(ctx X K ∗ owesW c (O₂ c) ∗ bigSep Finset.univ fun k : Fin 5 => iprop(xPts c (xReg c k.castSucc) (X c)
        ∗ oAny (F := F) (yp c) (aReg (yp c) k.castSucc) ∗ tokJ c (jSA k.castSucc) ∗ tokJ (yp c) (jRA k.castSucc)))
      ⊢ wpc c (forL (sendCh c) five) (fun _ => iprop(owesW c (owB c five + owBig c) ∗ bigSep Finset.univ fun k : Fin 5 => credJ c (jSA k.castSucc))) := by
  have h := wp_five X K c (sendCh c) (fun l => (owB c five + owBig c) + owA c l) _ (fun k => credJ c (jSA k.castSucc))
    (fun k l => by rw [owA_cons, ← add_assoc]; exact sendCh_spec X K c k _)
  rw [owA_nil, add_zero] at h
  exact h

theorem forward_loop :
    iprop(ctx X K ∗ owesW c (owB c five) ∗ bigSep Finset.univ fun k : Fin 5 => iprop((credJ c (jRA k.castSucc) ∗ posJ c (jRA k.castSucc))
        ∗ oAny (F := F) (xp c) (fReg (xp c) k) ∗ tokJ c (jSB k) ∗ tokJ (xp c) (jRB k)))
      ⊢ wpc c (forL (fun k => do waitRA c k; sendFw c k) five)
          (fun _ => iprop(owesW c 0 ∗ bigSep Finset.univ fun k : Fin 5 => iprop(credJ c (jSB k) ∗ zeroJ c (jRA k.castSucc)))) := by
  refine wp_five X K c _ (owB c) _ _ fun k l => ?_
  iintro ⟨#Hctx, HO, ⟨Hc, Hat⟩, Hd, Hts, Htr⟩
  iapply wp_seq
  iapply wp_wand_r
  isplitl [HO Hc Hat]
  · iapply (waitRA_spec X K c k (k :: l))
    isplitr; · iexact Hctx
    isplitl [HO]; · iexact HO
    isplitl [Hc] <;> iassumption
  iintro %_u ⟨HO, Hs, Hz⟩
  iapply wp_wand_r
  isplitl [HO Hs Hd Hts Htr]
  · iapply (sendFw_spec X K c k (owB c l))
    isplitr; · iexact Hctx
    isplitl [HO]; · rw [← owB_cons]; iexact HO
    isplitl [Hs]; · iexact Hs
    isplitl [Hd]; · iexact Hd
    isplitl [Hts] <;> iassumption
  iintro %_v ⟨HO, Hc⟩
  isplitl [HO]; · iexact HO
  isplitl [Hc] <;> iassumption

theorem waitRB_loop :
    iprop(ctx X K ∗ owesW c 0 ∗ bigSep Finset.univ fun k : Fin 5 => iprop(credJ c (jRB k) ∗ posJ c (jRB k)))
      ⊢ wpc c (forL (waitRB c) five)
          (fun _ => iprop(owesW c 0 ∗ bigSep Finset.univ fun k : Fin 5 => iprop(oPts c (fReg c k) (outAt X c) ∗ zeroJ c (jRB k)))) :=
  wp_five X K c _ (fun _ => 0) _ _ fun k _ => waitRB_spec X K c k

theorem waitS_loop :
    iprop(ctx X K ∗ owesW c 0 ∗ bigSep Finset.univ fun k : Fin 5 => iprop((credJ c (jSA k.castSucc) ∗ posJ c (jSA k.castSucc)) ∗ credJ c (jSB k) ∗ posJ c (jSB k)))
      ⊢ wpc c (forL (fun k => do waitSA c k; waitSB c k) five)
          (fun _ => iprop(owesW c 0 ∗ bigSep Finset.univ fun k : Fin 5 => iprop((xPts c (xReg c k.castSucc) (X c) ∗ zeroJ c (jSA k.castSucc))
            ∗ oPts c (aReg c k.castSucc) (outAt X c) ∗ zeroJ c (jSB k)))) := by
  refine wp_five X K c _ (fun _ => 0) _ _ fun k _ => ?_
  iintro ⟨#Hctx, HO, ⟨Hc, Hat⟩, Hc', Hat'⟩
  iapply wp_seq
  iapply wp_wand_r
  isplitl [HO Hc Hat]
  · iapply (waitSA_spec X K c k)
    isplitr; · iexact Hctx
    isplitl [HO]; · iexact HO
    isplitl [Hc] <;> iassumption
  iintro %_u ⟨HO, Hx⟩
  iapply wp_wand_r
  isplitl [HO Hc' Hat']
  · iapply (waitSB_spec X K c k)
    isplitr; · iexact Hctx
    isplitl [HO]; · iexact HO
    isplitl [Hc'] <;> iassumption
  iintro %_v ⟨HO, Ho⟩
  isplitl [HO]; · iexact HO
  isplitl [Hx] <;> iassumption

end Cert.Exchange

end
-- ==== Proof.Body.lean ====
/-
# The body from start to end

A device's argument and result are cut into the pieces the protocol moves; the phases run; the pieces are put together again.
-/
module

public import proofs.«01_k».proof.Proof.Phases

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The pieces of a device's argument and of its result -/

/-- What of the argument stays at home. -/
def xRest (c : Dev nD) : Finset S512x1024.Idx := Finset.univ \ xAll c
theorem xLoc_rest (c : Dev nD) : (xLoc c).set ⊆ xRest c := fun i hi =>
  Finset.mem_sdiff.mpr ⟨Finset.mem_univ i, fun h => Finset.disjoint_left.mp (xLoc_disjoint c) hi h⟩

omit [FloatOps F] in
theorem x_pieces (c : Dev nD) (f : XBuf F) :
    xPts c Finset.univ f ⊣⊢ iprop((bigSep Finset.univ fun k : Fin 6 => xPts c (xReg c k) f) ∗ xPts c (xRest c) f) := by
  have e : xPts c (xAll c) f = bigSep Finset.univ fun k : Fin 6 => xPts c (xReg c k) f := by
    unfold xPts xAll
    exact pointsTo_biUnion (Ix := Unit) (Val := Elt F) (Name := ℕ) (U := UU) (Lvl := ℕ) (ℓ := (c : Thread nD τ).loc cc0_stg0_0) (q := fullShare) (f := f) Finset.univ (xReg c) fun k _ l _ h => xReg_disjoint c k l h
  rw [← e]; unfold xPts
  exact pointsTo_split_subset (Finset.subset_univ (xAll c))

omit [FloatOps F] in
theorem o_pieces (c : Dev nD) (f : OBuf F) :
    oPts c Finset.univ f ⊣⊢ iprop(oPts c (hReg c) f ∗ (bigSep Finset.univ fun k : Fin 6 => oPts c (aReg c k) f)
      ∗ bigSep Finset.univ fun k : Fin 5 => oPts c (fReg c k) f) := by
  have ea : oPts c (aAll c) f = bigSep Finset.univ fun k : Fin 6 => oPts c (aReg c k) f := by
    unfold oPts aAll
    exact pointsTo_biUnion (Ix := Unit) (Val := Elt F) (Name := ℕ) (U := UU) (Lvl := ℕ) (ℓ := (c : Thread nD τ).loc cc0_stg1_0) (q := fullShare) (f := f) Finset.univ (aReg c) fun k _ l _ h => aReg_disjoint c k l h
  have ef : oPts c (fAll c) f = bigSep Finset.univ fun k : Fin 5 => oPts c (fReg c k) f := by
    unfold oPts fAll
    exact pointsTo_biUnion (Ix := Unit) (Val := Elt F) (Name := ℕ) (U := UU) (Lvl := ℕ) (ℓ := (c : Thread nD τ).loc cc0_stg1_0) (q := fullShare) (f := f) Finset.univ (fReg c) fun k _ l _ h => fReg_disjoint c k l h
  rw [← ea, ← ef, ← cover c]; unfold oPts
  have h₁ := pointsTo_union (Ix := Unit) (Val := Elt F) (Name := ℕ) (U := UU) (Lvl := ℕ) (ℓ := (c : Thread nD τ).loc cc0_stg1_0) (q := fullShare) (f := f) (hReg_disjoint c)
  have h₂ := pointsTo_union (Ix := Unit) (Val := Elt F) (Name := ℕ) (U := UU) (Lvl := ℕ) (ℓ := (c : Thread nD τ).loc cc0_stg1_0) (q := fullShare) (f := f) (aAll_fAll_disjoint c)
  exact ⟨h₁.1.trans (sep_mono_right h₂.1), (sep_mono_right h₂.2).trans h₁.2⟩

omit [FloatOps F] in
/-- The whole result, before the kernel writes it. -/
theorem o_start (c : Dev nD) (f : OBuf F) :
    oPts c Finset.univ f ⊢ iprop(oAny (F := F) c (hReg c) ∗ (bigSep Finset.univ fun k : Fin 6 => oAny (F := F) c (aReg c k))
      ∗ bigSep Finset.univ fun k : Fin 5 => oAny (F := F) c (fReg c k)) := by
  have h : ∀ S, oPts c S f ⊢ oAny (F := F) c S := fun S => by unfold oAny; iintro H; iexists f; iexact H
  exact (o_pieces c f).1.trans (sep_mono (h _) (sep_mono (bigSep_mono fun k _ => h _) (bigSep_mono fun k _ => h _)))

/-! ## The body -/

variable (X : Dev nD → XBuf F) (K : Dev nD × I → ℕ) (c : Dev nD)

/-- What a device starts from besides its buffers: the tokens of what it pays, its positions, its credit. -/
def toks : sProp 𝕄 :=
  iprop((dutyTok ER (barCell (yp c)) 0 false ∗ dutyTok ER (barCell (xp c)) 0 true)
    ∗ ((bigSep Finset.univ fun k : Fin 6 => tokJ (F := F) c (jSA k)) ∗ (bigSep Finset.univ fun k : Fin 6 => tokJ (F := F) (yp c) (jRA k)))
    ∗ ((bigSep Finset.univ fun k : Fin 5 => tokJ (F := F) c (jSB k)) ∗ (bigSep Finset.univ fun k : Fin 5 => tokJ (F := F) (xp c) (jRB k))))
def poss : sProp 𝕄 :=
  iprop(atPos ER (barCell c) 0 ∅ 0
    ∗ ((bigSep Finset.univ fun k : Fin 6 => posJ (F := F) c (jSA k)) ∗ (bigSep Finset.univ fun k : Fin 6 => posJ (F := F) c (jRA k)))
    ∗ ((bigSep Finset.univ fun k : Fin 5 => posJ (F := F) c (jSB k)) ∗ (bigSep Finset.univ fun k : Fin 5 => posJ (F := F) c (jRB k))))
def creds : sProp 𝕄 :=
  iprop(cred (tallyAt (barCell c) () 2) ∗ (bigSep Finset.univ fun k : Fin 6 => credJ (F := F) c (jRA k)) ∗ (bigSep Finset.univ fun k : Fin 5 => credJ (F := F) c (jRB k)))
/-- All semaphores back at zero. -/
def zeros : sProp 𝕄 :=
  iprop(semVal (barCell c) 0
    ∗ ((bigSep Finset.univ fun k : Fin 6 => zeroJ (F := F) c (jSA k)) ∗ (bigSep Finset.univ fun k : Fin 6 => zeroJ (F := F) c (jRA k)))
    ∗ ((bigSep Finset.univ fun k : Fin 5 => zeroJ (F := F) c (jSB k)) ∗ (bigSep Finset.univ fun k : Fin 5 => zeroJ (F := F) c (jRB k))))

/-- The body of device `c` fills its result with `outAt X c` and leaves everything else as it was. -/
theorem loops_spec :
    iprop(ctx X K ∗ owesW c (O₀ c) ∗ toks (F := F) c ∗ poss (F := F) c ∗ creds (F := F) c ∗ xPts c Finset.univ (X c) ∗ ∃ f, oPts (F := F) c Finset.univ f)
      ⊢ wpc c (loops c) (fun _ => iprop(owesW c 0 ∗ zeros (F := F) c ∗ xPts c Finset.univ (X c) ∗ oPts c Finset.univ (outAt X c))) := by
  unfold toks poss creds zeros loops
  simp only [bigSep_six]
  iintro ⟨#Hctx, HO, ⟨⟨HtY, HtX⟩, ⟨⟨HtSA, HtSA5⟩, HtRA, HtRA5⟩, HtSB, HtRB⟩, ⟨HaB, ⟨⟨HaSA, HaSA5⟩, HaRA, HaRA5⟩, HaSB, HaRB⟩,
    ⟨HcB, ⟨HcRA, HcRA5⟩, HcRB⟩, Hx, ⟨%f, Ho⟩⟩
  ihave Hx := (x_pieces c (X c)).1 $$ Hx
  ihave Ho := (o_start c f) $$ Ho
  simp only [bigSep_six]
  icases Hx with ⟨⟨Hx, Hx5⟩, HxR⟩
  icases Ho with ⟨Hh, Ha, Hf⟩
  -- the handshake
  iapply wp_seq; iapply wp_wand_r
  isplitl [HO HtY HtX Ha Hf HcB HaB]
  · iapply (handshake_spec X K c)
    simp only [bigSep_six]
    isplitr; · iexact Hctx
    isplitl [HO]; · iexact HO
    isplitl [HtY]; · iexact HtY
    isplitl [HtX]; · iexact HtX
    isplitl [Ha]; · iexact Ha
    isplitl [Hf]; · iexact Hf
    isplitl [HcB] <;> iassumption
  unfold barPay
  simp only [bigSep_six]
  iintro %_ ⟨HO, ⟨Hd, Hd5⟩, Hdf, HzB⟩
  -- the first exchange: five chunks, then the large piece
  iapply wp_seq; iapply wp_wand_r
  isplitl [HO Hx Hd HtSA HtRA]
  · iapply (sendA_loop X K c)
    simp only [bigSep_sep']
    isplitr; · iexact Hctx
    isplitl [HO]; · iexact HO
    isplitl [Hx]; · iexact Hx
    isplitl [Hd]; · iexact Hd
    isplitl [HtSA] <;> iassumption
  iintro %_ ⟨HO, HcSA⟩
  iapply wp_seq; iapply wp_wand_r
  isplitl [HO Hx5 Hd5 HtSA5 HtRA5]
  · iapply (sendBig_spec X K c (owB c five))
    isplitr; · iexact Hctx
    isplitl [HO]; · iexact HO
    isplitl [Hx5]; · iexact Hx5
    isplitl [Hd5]; · iexact Hd5
    isplitl [HtSA5] <;> iassumption
  iintro %_ ⟨HO, HcSA5⟩
  -- the local copy
  iapply wp_seq; iapply wp_wand_r
  isplitl [HxR Hh]
  · iapply (copyLoc_spec X c (xRest c) (xLoc_rest c))
    isplitl [HxR] <;> iassumption
  iintro %_ ⟨HxR, Hh⟩
  -- the forwarding
  iapply wp_seq; iapply wp_wand_r
  isplitl [HO HcRA HaRA Hdf HtSB HtRB]
  · iapply (forward_loop X K c)
    simp only [bigSep_sep']
    isplitr; · iexact Hctx
    isplitl [HO]; · iexact HO
    isplitl [HcRA HaRA]; · isplitl [HcRA] <;> iassumption
    isplitl [Hdf]; · iexact Hdf
    isplitl [HtSB] <;> iassumption
  simp only [bigSep_sep']
  iintro %_ ⟨HO, HcSB, HzRA⟩
  -- the waits that are left
  iapply wp_seq; iapply wp_wand_r
  isplitl [HO HcRA5 HaRA5]
  · iapply (waitRBig_spec X K c)
    isplitr; · iexact Hctx
    isplitl [HO]; · iexact HO
    isplitl [HcRA5] <;> iassumption
  iintro %_ ⟨HO, Ha5, HzRA5⟩
  iapply wp_seq; iapply wp_wand_r
  isplitl [HO HcRB HaRB]
  · iapply (waitRB_loop X K c)
    simp only [bigSep_sep']
    isplitr; · iexact Hctx
    isplitl [HO]; · iexact HO
    isplitl [HcRB] <;> iassumption
  simp only [bigSep_sep']
  iintro %_ ⟨HO, Hf, HzRB⟩
  iapply wp_seq; iapply wp_wand_r
  isplitl [HO HcSA HaSA HcSB HaSB]
  · iapply (waitS_loop X K c)
    simp only [bigSep_sep']
    isplitr; · iexact Hctx
    isplitl [HO]; · iexact HO
    isplitl [HcSA HaSA]; · isplitl [HcSA] <;> iassumption
    isplitl [HcSB] <;> iassumption
  simp only [bigSep_sep']
  iintro %_ ⟨HO, ⟨Hx, HzSA⟩, Ha, HzSB⟩
  iapply wp_wand_r
  isplitl [HO HcSA5 HaSA5]
  · iapply (waitSBig_spec X K c)
    isplitr; · iexact Hctx
    isplitl [HO]; · iexact HO
    isplitl [HcSA5] <;> iassumption
  iintro %_ ⟨HO, Hx5, HzSA5⟩
  isplitl [HO]; · iexact HO
  isplitl [HzB HzSA HzSA5 HzRA HzRA5 HzSB HzRB]
  · isplitl [HzB]; · iexact HzB
    isplitl [HzSA HzSA5 HzRA HzRA5]
    · isplitl [HzSA HzSA5]; · isplitl [HzSA] <;> iassumption
      isplitl [HzRA] <;> iassumption
    isplitl [HzSB] <;> iassumption
  isplitl [Hx Hx5 HxR]
  · iapply (x_pieces c (X c)).2
    simp only [bigSep_six]
    isplitl [Hx Hx5]; · isplitl [Hx] <;> iassumption
    iexact HxR
  iapply (o_pieces c (outAt X c)).2
  simp only [bigSep_six]
  isplitl [Hh]; · iexact Hh
  isplitl [Ha Ha5]; · isplitl [Ha] <;> iassumption
  iexact Hf

end Cert.Exchange

end
-- ==== Proof.Credit.lean ====
/-
# What each semaphore is owed at the start

Summed over all devices, what is owed to a device's barrier is two units, and to a receiver's semaphore the size of the
one piece that arrives there.
-/
module

public import proofs.«01_k».proof.Proof.Body

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem csem_injective : Function.Injective csem := by
  rintro (_ | j) (_ | j') h
  · rfl
  · exact absurd h.symm (jsem_ne_bar j')
  · exact absurd h (jsem_ne_bar j)
  · exact congrArg Sum.inr (jsem_injective h)
theorem kcell_injective : Function.Injective kcell := by
  rintro ⟨c, i⟩ ⟨c', i'⟩ h
  have h1 : c = c' := congrArg (fun g : GSem nD τ sig => g.1.1) h
  have h2 : i = i' := csem_injective (congrArg Prod.snd h)
  rw [h1, h2]

theorem tally_at (p q : Dev nD × I) (n : ℕ) : tallyAt (kcell p) () n (kcell q) () = if q = p then n else 0 := by
  rw [tallyAt_apply]
  by_cases h : q = p
  · subst h; rw [if_pos ⟨rfl, rfl⟩, if_pos rfl]
  · rw [if_neg (fun h' => h (kcell_injective h'.1)), if_neg h]

theorem owA_at (d : Dev nD) (l : List (Fin 5)) (q : Dev nD × I) :
    owA d l (kcell q) () = (l.map fun k => if q = (yp d, .inr (jRA k.castSucc)) then n32 else 0).sum := by
  induction l with
  | nil => rfl
  | cons k l ih =>
    rw [owA_cons, Pi.add_apply, Finsupp.add_apply, ih, List.map_cons, List.sum_cons, add_comm]
    exact congrArg (· + _) (tally_at (yp d, .inr (jRA k.castSucc)) q n32)
theorem owB_at (d : Dev nD) (l : List (Fin 5)) (q : Dev nD × I) :
    owB d l (kcell q) () = (l.map fun k => if q = (xp d, .inr (jRB k)) then n32 else 0).sum := by
  induction l with
  | nil => rfl
  | cons k l ih =>
    rw [owB_cons, Pi.add_apply, Finsupp.add_apply, ih, List.map_cons, List.sum_cons, add_comm]
    exact congrArg (· + _) (tally_at (xp d, .inr (jRB k)) q n32)

/-- What device `d` owes a semaphore. -/
theorem owed_at (d : Dev nD) (q : Dev nD × I) :
    O₀ d (kcell q) () = ((((five.map fun k => if q = (xp d, .inr (jRB k)) then n32 else 0).sum
      + (if q = (yp d, .inr (jRA 5)) then n192 else 0))
      + (five.map fun k => if q = (yp d, .inr (jRA k.castSucc)) then n32 else 0).sum)
      + (if q = (xp d, .inl ()) then 1 else 0)) + (if q = (yp d, .inl ()) then 1 else 0) := by
  unfold O₀ O₁ O₂ owBig
  simp only [Pi.add_apply, Finsupp.add_apply]
  rw [owA_at, owB_at, ← tally_at, ← tally_at, ← tally_at]
  rfl

theorem eq_yp {c d : Dev nD} : c = yp d ↔ d = yp c := ⟨fun h => by rw [h, yp_yp], fun h => by rw [h, yp_yp]⟩
theorem eq_xp {c d : Dev nD} : c = xp d ↔ d = xp c := ⟨fun h => by rw [h, xp_xp], fun h => by rw [h, xp_xp]⟩

theorem owed_bar (d c : Dev nD) : O₀ d (kcell (c, .inl ())) () = (if d = xp c then 1 else 0) + (if d = yp c then 1 else 0) := by
  rw [owed_at]; simp [eq_yp, eq_xp]
theorem owed_RA (d c : Dev nD) (k : Fin 6) : O₀ d (kcell (c, .inr (jRA k))) () = if d = yp c then amtA k else 0 := by
  rw [owed_at]
  by_cases h : d = yp c
  · fin_cases k <;> simp [eq_yp, h, amtA] <;> decide
  · have h' : ¬c = yp d := fun e => h (eq_yp.mp e)
    simp [h', h]
theorem owed_RB (d c : Dev nD) (k : Fin 5) : O₀ d (kcell (c, .inr (jRB k))) () = if d = xp c then n32 else 0 := by
  rw [owed_at]
  by_cases h : d = xp c
  · fin_cases k <;> simp [eq_xp, h]
  · have h' : ¬c = xp d := fun e => h (eq_xp.mp e)
    simp [h', h]

/-- The credit on a semaphore that is owed `n` in total. -/
theorem launch_at (p : Dev nD × I) (n : ℕ) (h : ∑ d, O₀ d (kcell p) () = n) :
    tallyOn (kcell p) (launchCredit (Pipeline.owing O₀) 0 (kcell p)) = (tallyAt (kcell p) () n : CellTallies nD τ sig Unit) := by
  unfold tallyAt; refine congrArg _ (Finsupp.ext fun u => ?_); cases u
  rw [Finsupp.single_eq_same, ← h]
  exact Pipeline.launchCredit_owing ..

theorem launch_bar (c : Dev nD) : ∑ d, O₀ d (kcell (c, .inl ())) () = 2 := by
  simp only [owed_bar, Finset.sum_add_distrib, Finset.sum_ite_eq', Finset.mem_univ, if_true]
theorem launch_RA (c : Dev nD) (k : Fin 6) : ∑ d, O₀ d (kcell (c, .inr (jRA k))) () = amtA k := by
  simp only [owed_RA, Finset.sum_ite_eq', Finset.mem_univ, if_true]
theorem launch_RB (c : Dev nD) (k : Fin 5) : ∑ d, O₀ d (kcell (c, .inr (jRB k))) () = n32 := by
  simp only [owed_RB, Finset.sum_ite_eq', Finset.mem_univ, if_true]

omit [FloatOps F] in
theorem drop_left (P Q : sProp 𝕄) : iprop(P ∗ Q) ⊢ Q := by iintro ⟨-, H⟩; iexact H

omit [FloatOps F] in
/-- A device's credit at the start. -/
theorem creds_intro (c : Dev nD) : (Pipeline.launchCred O₀ c : sProp 𝕄) ⊢ creds (F := F) c := by
  unfold Pipeline.launchCred
  refine (BI.bigSep_subset (Finset.subset_univ (Finset.univ.map ⟨csem, csem_injective⟩))).trans ?_
  rw [BI.bigSep_map, BI.bigSep_univ_sum, BI.bigSep_univ_sum, BI.bigSep_univ_sum, BI.bigSep_univ_sum]
  unfold creds
  have h (i : I) (n : ℕ) (hn : ∑ d, O₀ d (kcell (c, i)) () = n) :
      (cred (tallyOn (kcell (c, i)) (launchCredit (Pipeline.owing O₀) 0 (kcell (c, i)))) : sProp 𝕄) ⊢ cred (tallyAt (kcell (c, i)) () n) :=
    Entails.of_eq (congrArg cred (launch_at (c, i) n hn))
  refine sep_mono ?_ (sep_mono ((drop_left _ _).trans (BI.bigSep_mono fun k _ => ?_)) ((drop_left _ _).trans (BI.bigSep_mono fun k _ => ?_)))
  · rw [Finset.univ_unique, BI.bigSep_singleton]; exact h (.inl ()) 2 (launch_bar c)
  · exact h (.inr (jRA k)) _ (launch_RA c k)
  · exact h (.inr (jRB k)) _ (launch_RB c k)

end Cert.Exchange

end
-- ==== Proof.Run.lean ====
/-
# The run of the whole mesh

The protocol is set up at the launch, the body runs on every device, and the arrays are read off at the end.
-/
module

public import proofs.«01_k».proof.Proof.Credit
public import Idealize.ShloMosaic.Lib.Pipeline.Kit
public import Idealize.ShloMosaic.Lib.Pipeline.CollectiveSegs

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The state at the start. -/
def s₀ : MemSt nD τ sig (Elt F) := ⟨m, fun _ => 0, ρ⟩

/-- Device `c`'s argument, as staged. -/
def xstg (c : Dev nD) : XBuf F :=
  (win0_0.blk (0 : Fin 1)).view.read (Elt F) ((s₀ m ρ).mem ((c : Thread nD τ).loc main_arg0))

/-! ## The body's obligation -/

/-- The ghost state a device starts from, and with its credit. -/
def ghost (c : Dev nD) : sProp 𝕄 := iprop(∃ K, records (xstg m ρ) K ∗ toks (F := F) c ∗ poss (F := F) c)
def start (c : Dev nD) : sProp 𝕄 := iprop(ghost m ρ c ∗ creds (F := F) c ∗ levAts L lv)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt (xstg m ρ) c
  Φ t := match t with
    | ⟨0, _⟩ => start m ρ c
    | ⟨_ + 1, _⟩ => zeros (F := F) c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N0 t]; rfl

/-- A staging buffer at contents `f`. -/
abbrev stg (c : Dev nD) (b : Ref sig .tc) (f : b.ty.Contents (Elt F)) : sProp 𝕄 :=
  iprop(∃ g : Buf (Elt F) ((c : Thread nD τ).loc b), ⌜g = f⌝ ∗ (((c : Thread nD τ).loc b) ↦{fullShare} g))

omit [FloatOps F] in
theorem owns_stg (c : Dev nD) (b : Ref sig .tc) (f : b.ty.Contents (Elt F)) :
    (owns (Ix := Unit) (Name := ℕ) (U := UU) (Lvl := ℕ) (c : Thread nD τ) (Memref.whole b) fullShare f : sProp 𝕄) = stg c b f := by
  unfold owns; simp only [Memref.view_whole, View.read_whole, View.set_whole]

def bodyPre (c : Dev nD) : sProp 𝕄 :=
  iprop(start m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(zeros (F := F) c ∗ (dats m ρ 0 c).owesAt () t0_0.succ ∗ stg c cc0_stg0_0 (xstg m ρ c) ∗ stg c cc0_stg1_0 (outAt (xstg m ρ) c))

theorem before_x (c : Dev nD) (d) : (dats m ρ 0 c).before (0 : Fin 2) t0_0 d = xstg m ρ c := by
  unfold Dat.before; rw [if_pos (fetch_0 t0_0)]; rfl

theorem body_run (c : Dev nD) :
    bodyPre m ρ c ⊢ wpc c (cc0_body (F := F) xM xM_whole oM oM_whole cc0_scratch0 cc0_scratch1 cc0_scratch2 cc0_scratch3) (fun _ => bodyPost m ρ c) := by
  rw [body_eq_loops]
  unfold wpc
  simp only [Prog.lift, Prog.bind_op, Prog.bind_ret, wp_deviceId]
  unfold bodyPre start ghost Dat.owesAt Pipeline.owesWithin
  iintro ⟨⟨⟨%K, #Hrec, Htok, Hpos⟩, Hcr, #Hlev⟩, ⟨%W, %hW, HO⟩, ⟨%d0, %g0, %hg0, Hx⟩, ⟨%d1, %g1, %hg1, Ho⟩⟩
  rw [before_x] at hg0
  subst hg0
  iapply wp_wand_r
  isplitl
  · iapply (loops_spec (xstg m ρ) K c)
    isplitr; · unfold ctx; isplitr; · iexact Hrec
               iexact Hlev
    isplitl [HO]; · unfold owesW; iexists W; iexact HO
    isplitl [Htok]; · iexact Htok
    isplitl [Hpos]; · iexact Hpos
    isplitl [Hcr]; · iexact Hcr
    isplitl [Hx]; · unfold xPts; iexact Hx
    iexists g1; unfold oPts; iexact Ho
  unfold owesW xPts oPts bodyPost Dat.owesAt Pipeline.owesWithin
  iintro %_u ⟨⟨%W', HO⟩, Hz, Hx, Ho⟩
  isplitl [Hz]; · iexact Hz
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Ho

set_option maxRecDepth 4000 in
theorem body_obligation (c : Dev nD) : BodyObligation (dats (F := F) m ρ 0 c) (defs₀ (F := F)) 𝒱₀ () Set.univ := fun t => by
  rw [fin_N0 t]
  rw [bigSep_W, bigSep_W]
  simp only [owns_stg]
  exact body_run m ρ c

/-! ## The launch -/

theorem ownSemFacts : Pipeline.OwnSemFacts cfg0.spec jsem := by decide +kernel

theorem share_eq (c : Dev nD) (w : Fin cfg0.W) : (dats m ρ 0 c).share w = fullShare := by unfold Dat.share; split <;> rfl

def ringCells : Finset (GSem nD τ sig) := Finset.univ.map ⟨kcell, kcell_injective⟩

/-- The duties of a device's own semaphores: two on the barrier, one on each of the others. -/
def tokOf : Dev nD × (Bool ⊕ J) → GSem nD τ sig × ℕ × Bool
  | (c, .inl b) => (barCell c, 0, b)
  | (c, .inr j) => (jCell c j, 0, false)
theorem tokOf_injective : Function.Injective tokOf := by
  rintro ⟨c, b | j⟩ ⟨c', b' | j'⟩ h
  · have h1 : (c, (.inl () : I)) = (c', .inl ()) := kcell_injective (congrArg Prod.fst h)
    have h2 : b = b' := congrArg (fun x : GSem nD τ sig × ℕ × Bool => x.2.2) h
    have h3 : c = c' := congrArg Prod.fst h1
    rw [h3, h2]
  · have h1 : (c, (.inl () : I)) = (c', .inr j') := kcell_injective (congrArg Prod.fst h)
    cases congrArg Prod.snd h1
  · have h1 : (c, (.inr j : I)) = (c', .inl ()) := kcell_injective (congrArg Prod.fst h)
    cases congrArg Prod.snd h1
  · have h1 : (c, (.inr j : I)) = (c', .inr j') := kcell_injective (congrArg Prod.fst h)
    have h2 : c = c' := congrArg Prod.fst h1
    have h3 : j = j' := Sum.inr.inj (congrArg Prod.snd h1)
    rw [h2, h3]
def ringToks : Finset (GSem nD τ sig × ℕ × Bool) := Finset.univ.map ⟨tokOf, tokOf_injective⟩

def u₀ : UU := (initOf (Pipeline.cells cfgs cellOf_inj) (Pipeline.launchToks cfgs cellOf_inj), initOf ringCells ringToks)

/-- The tokens of device `c`'s own semaphores. -/
def ownToks (c : Dev nD) : sProp 𝕄 :=
  iprop((dutyTok ER (barCell c) 0 false ∗ dutyTok ER (barCell c) 0 true)
    ∗ ((bigSep Finset.univ fun k : Fin 6 => tokJ (F := F) c (jSA k)) ∗ (bigSep Finset.univ fun k : Fin 6 => tokJ (F := F) c (jRA k)))
    ∗ ((bigSep Finset.univ fun k : Fin 5 => tokJ (F := F) c (jSB k)) ∗ (bigSep Finset.univ fun k : Fin 5 => tokJ (F := F) c (jRB k))))

/-- What the launch deals device `c`. -/
def G (c : Dev nD) : sProp 𝕄 :=
  iprop((bigSep Finset.univ fun i : I => roundState ER (sched (xstg m ρ)) (kcell (c, i)) 0)
    ∗ (bigSep Finset.univ fun i : I => atPos ER (kcell (c, i)) 0 ∅ 0) ∗ (bigSep Finset.univ fun i : I => reached ER (kcell (c, i)) 0) ∗ ownToks (F := F) c)

omit [FloatOps F] in
/-- A statement about each semaphore of a device, family by family. -/
theorem bigSep_I (Φ : I → sProp 𝕄) : bigSep Finset.univ Φ = iprop(Φ (.inl ())
    ∗ ((bigSep Finset.univ fun k => Φ (.inr (jSA k))) ∗ (bigSep Finset.univ fun k => Φ (.inr (jRA k))))
    ∗ ((bigSep Finset.univ fun k => Φ (.inr (jSB k))) ∗ (bigSep Finset.univ fun k => Φ (.inr (jRB k))))) := by
  rw [BI.bigSep_univ_sum, BI.bigSep_univ_sum, BI.bigSep_univ_sum, BI.bigSep_univ_sum, Finset.univ_unique, BI.bigSep_singleton]; rfl

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun i : I => Φ (kcell (c, i)) := by
    unfold ringCells; rw [BI.bigSep_map, BI.bigSep_univ_prod]; rfl
  have hT : bigSep ringToks (fun x => (dutyTok ER x.1 x.2.1 x.2.2 : sProp 𝕄)) = bigSep Finset.univ fun c : Dev nD => ownToks (F := F) c := by
    unfold ringToks; rw [BI.bigSep_map, BI.bigSep_univ_prod]
    refine BI.bigSep_congr fun c _ => ?_
    unfold ownToks
    rw [BI.bigSep_univ_sum, BI.bigSep_univ_sum, BI.bigSep_univ_sum, BI.bigSep_univ_sum, bigSep_univ_eq_bigSepL [false, true] (by decide) (by decide),
      bigSepL_cons_cons, bigSepL_singleton]
    rfl
  iintro HX
  imod (Rounds.fund ER (sched (xstg m ρ)) ringCells ringToks) $$ HX with ⟨Hst, Hr, Hat, Htok⟩
  imodintro
  ihave Hst' := (Entails.of_eq (hX fun g => roundState ER (sched (xstg m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr'] <;> iassumption

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The semaphores at zero: the barrier is the launch's, the others are the kernel's own. -/
theorem sems0_eq (c : Dev nD) :
    (zeros c : sProp 𝕄) = iprop(unscopedSems0 c ∗ Pipeline.ownSems0 (Ix := Unit) (Name := ℕ) (U := UU) (Lvl := ℕ) (Val := Elt F) (τ := τ) jsem c) := by
  unfold zeros Pipeline.ownSems0
  rw [unscopedSems0_eq, BI.bigSep_univ_sum, BI.bigSep_univ_sum, BI.bigSep_univ_sum]; rfl

omit [FloatOps F] in
theorem zeros_eq (c : Dev nD) : (zeros c : sProp 𝕄) = bigSep Finset.univ fun i : I => semVal (kcell (c, i)) 0 := by
  rw [bigSep_I]; rfl
omit [FloatOps F] in
theorem poss_eq (c : Dev nD) : (poss c : sProp 𝕄) = bigSep Finset.univ fun i : I => atPos ER (kcell (c, i)) 0 ∅ 0 := by
  rw [bigSep_I]; rfl

theorem core_alloc (c : Dev nD) :
    iprop(Pipeline.ownSems0 (Ix := Unit) (Name := ℕ) (U := UU) (Lvl := ℕ) (Val := Elt F) (τ := τ) jsem c ∗ unscopedSems0 c ∗ G m ρ c)
      ⊢ |={Set.univ}=> iprop((bigSep Finset.univ fun i : I => iprop(∃ κ : ℕ, cellInv ER (sched (xstg m ρ)) κ (kcell (c, i))))
          ∗ poss (F := F) c ∗ (bigSep Finset.univ fun i : I => reached ER (kcell (c, i)) 0) ∗ ownToks (F := F) c) := by
  unfold G
  rw [poss_eq]
  iintro ⟨Hos, Hus, Hst, Hrest⟩
  ihave Hv := (Entails.of_eq ((sems0_eq (F := F) c).symm.trans (zeros_eq c))) $$ [Hos Hus]
  · isplitl [Hus] <;> iassumption
  imod (show iprop((bigSep Finset.univ fun i : I => semVal (kcell (c, i)) 0) ∗ bigSep Finset.univ fun i : I => roundState ER (sched (xstg m ρ)) (kcell (c, i)) 0)
      ⊢ (|={Set.univ}=> bigSep Finset.univ fun i : I => iprop(∃ κ : ℕ, cellInv ER (sched (xstg m ρ)) κ (kcell (c, i))) : sProp 𝕄) from by
        rw [← bigSep_sep']
        exact (BI.bigSep_mono fun i _ => (Rounds.body_intro ER (sched (xstg m ρ)) (kcell (c, i))).trans inv_alloc).trans (bigSep_fupd _ _)) $$ [Hv Hst] with Hinv
  · isplitl [Hv] <;> iassumption
  imodintro
  isplitl [Hinv]; · iexact Hinv
  iexact Hrest

def ypE : Dev nD ≃ Dev nD := ⟨yp, yp, yp_yp, yp_yp⟩
def xpE : Dev nD ≃ Dev nD := ⟨xp, xp, xp_xp, xp_xp⟩

omit [FloatOps F] in
/-- Every token goes to the device that pays with it. -/
theorem toks_around : (bigSep Finset.univ fun c : Dev nD => (ownToks c : sProp 𝕄)) = bigSep Finset.univ fun c : Dev nD => toks (F := F) c := by
  unfold ownToks toks
  simp only [bigSep_sep']
  rw [BI.bigSep_univ_equiv ypE (fun c : Dev nD => (dutyTok ER (barCell c) 0 false : sProp 𝕄)),
    BI.bigSep_univ_equiv xpE (fun c : Dev nD => (dutyTok ER (barCell c) 0 true : sProp 𝕄)),
    BI.bigSep_univ_equiv ypE (fun c : Dev nD => bigSep Finset.univ fun k : Fin 6 => tokJ (F := F) c (jRA k)),
    BI.bigSep_univ_equiv xpE (fun c : Dev nD => bigSep Finset.univ fun k : Fin 5 => tokJ (F := F) c (jRB k))]
  rfl

theorem ghost_intro (K : Dev nD × I → ℕ) (c : Dev nD) : iprop(records (xstg m ρ) K ∗ toks (F := F) c ∗ poss (F := F) c) ⊢ ghost m ρ c := by
  unfold ghost; iintro H; iexists K; iexact H

theorem regroup :
    (bigSep Finset.univ fun c : Dev nD => iprop((bigSep Finset.univ fun i : I => iprop(∃ κ : ℕ, cellInv ER (sched (xstg m ρ)) κ (kcell (c, i))))
          ∗ poss (F := F) c ∗ (bigSep Finset.univ fun i : I => reached ER (kcell (c, i)) 0) ∗ ownToks (F := F) c) : sProp 𝕄)
      ⊢ bigSep Finset.univ (ghost m ρ) := by
  rw [bigSep_sep', bigSep_sep', bigSep_sep', ← BI.bigSep_univ_prod (fun p : Dev nD × I => iprop(∃ κ : ℕ, cellInv ER (sched (xstg m ρ)) κ (kcell p))),
    ← BI.bigSep_univ_prod (fun p : Dev nD × I => (reached ER (kcell p) 0 : sProp 𝕄)), toks_around]
  iintro ⟨HI, Hat, #HR, Htok⟩
  ihave HK := (BI.bigSep_exists_pi Finset.univ (fun (p : Dev nD × I) (κ : ℕ) => (cellInv ER (sched (xstg m ρ)) κ (kcell p) : sProp 𝕄))) $$ HI
  icases HK with ⟨%K, #HI⟩
  iapply (BI.bigSep_with_persistent (R := records (xstg m ρ) K) fun c _ => ghost_intro m ρ K c)
  isplitr
  · unfold records; isplitr; · iexact HI
    iexact HR
  rw [bigSep_sep']
  isplitl [Htok] <;> iassumption

theorem glob : (bigSep Finset.univ fun c => iprop(Pipeline.ownSems0 (Ix := Unit) (Name := ℕ) (U := UU) (Lvl := ℕ) (Val := Elt F) (τ := τ) jsem c ∗ unscopedSems0 c ∗ G m ρ c) : sProp 𝕄)
    ⊢ |={Set.univ}=> bigSep Finset.univ (ghost m ρ) :=
  ((BI.bigSep_mono fun c _ => core_alloc m ρ c).trans (bigSep_fupd _ _)).trans (BI.fupd_mono (regroup m ρ))

/-! ### The side conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m ρ c)
      ⊢ |={Set.univ}=> iprop(start m ρ c ∗ emp) := by
  iintro ⟨-, Hlev, Hcr, -, HG⟩
  ihave Hc := (creds_intro (F := F) c) $$ Hcr
  imodintro
  unfold start
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = start m ρ c from rfl]
  iintro ⟨Hs, -⟩
  iexact Hs

theorem phi1_exit (c : Dev nD) :
    (dats m ρ 0 c).Φ (Fin.last cfg0.N) ⊢ iprop(unscopedSems0 c ∗ Pipeline.ownSems0 jsem c ∗ Pipeline.scopedRest cfg0.spec c) := by
  rw [show (dats m ρ 0 c).Φ (Fin.last cfg0.N) = zeros c from rfl, scopedRest0_eq, sems0_eq]
  iintro ⟨Hu, Ho⟩
  isplitl [Hu]; · iexact Hu
  isplitl [Ho]; · iexact Ho
  iempintro

/-- The staging semaphores lie at the bottom. -/
theorem lv_stage (w : Fin cfg0.W) (s : Fin (cfg0.win w).nbuf) (c : Dev nD) : lv ((c : Thread nD τ), .dma ((cfg0.win w).sem s)) () ≤ 0 := by
  have h : ∀ j, jsem j ≠ .dma ((cfg0.win w).sem s) := by fin_cases w <;> fin_cases s <;> decide
  unfold lv; rw [if_neg (fun h => by cases h), jOf_none h]

theorem waits (c : Dev nD) : (levAts L lv : sProp 𝕄) ⊢ Pipeline.cellsWaits cfgs (dats m ρ) () 0 c :=
  Pipeline.cellsWaits_intro cfgs (dats m ρ) () 0 c fun w s t => mayWait c _ 0 (lv_stage w s c) (by
      rcases t with ⟨_ | _, ht⟩
      · exact above_O₀ c
      · exact above_zero 0)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every run of the mesh ends, each array at its computed contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := ghost m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Exchange

end
-- ==== Proof.Value.lean ====
/-
# The result of the run

After the run the argument of every device holds what it held, and its result holds `outAt` of the arguments. When the
arguments are the blocks of 512 rows of one array of 1024 rows, that is the block of 512 columns of the same array.
-/
module

public import proofs.«01_k».proof.Proof.Run

@[expose] public section

noncomputable section

namespace Cert.Exchange

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-! ### The arrays after the run -/

/-- The argument is only read. -/
theorem finalA_x (c : Dev nD) : finalA m ρ c (0 : Fin 2) = m ((c : Thread nD τ).loc main_arg0) :=
  (dats (F := F) m ρ 0 c).arrAt_in (0 : Fin 2) rfl _

/-- What the body finds in its argument buffer is the whole argument. -/
theorem xstg_eq (c : Dev nD) : xstg m ρ c = m ((c : Thread nD τ).loc main_arg0) :=
  Memref.read_access_unit_zero (Elt F) main_arg0 (funext fun a => by fin_cases a <;> rfl) (fun a => by fin_cases a <;> decide) _

/-- The result is written back whole, once. -/
theorem finalA_o (c : Dev nD) : finalA m ρ c (1 : Fin 2) = outAt (xstg m ρ) c := by
  have hw : (win0_1.blk (0 : Fin 1)).view.read (Elt F) (finalA m ρ c (1 : Fin 2)) = outAt (xstg m ρ) c := by
    unfold finalA
    rw [show cfg0.N = ((0 : Fin 1) : Fin cfg0.N).val + 1 from rfl, (dats m ρ 0 c).arrAt_succ (1 : Fin 2) (0 : Fin 1)]
    rw [show (cfg0.win (1 : Fin 2)).flush (0 : Fin 1) = true from flush0_1 _, if_pos rfl]
    exact View.read_write_univ _ _
  exact (Memref.read_access_unit_zero (Elt F) main_v1 (funext fun a => by fin_cases a <;> rfl)
    (fun a => by fin_cases a <;> decide) _).symm.trans hw

/-! ### The equation -/

/-- The argument array and the result array of device `c`, cut from one array `v`. -/
abbrev rowsOf {α : Type} (v : Shape.Idx ⟨2, ![1024, 1024]⟩ → α) (c : Dev nD) : S512x1024.Idx → α :=
  Layout.blockN ⟨2, ![512, 1024]⟩ ⟨2, ![1024, 1024]⟩ (Layout.meshBlock [2, 2] ![[1], []] c) v
abbrev colsOf {α : Type} (v : Shape.Idx ⟨2, ![1024, 1024]⟩ → α) (c : Dev nD) : S1024x512.Idx → α :=
  Layout.blockN ⟨2, ![1024, 512]⟩ ⟨2, ![1024, 1024]⟩ (Layout.meshBlock [2, 2] ![[], [1]] c) v

/-- Row `r` of a result comes from a device whose argument holds row `r` of the array. -/
theorem srcDev_mod (c : Dev nD) (r : ℕ) (h : r < 1024) : (srcDev c r).val % 2 = r / 512 := by
  have h4 := lt4 c
  unfold srcDev
  split_ifs with h1 h2
  · exact h1.symm
  · rw [yp_mod, xp_mod]; omega
  · rw [yp_mod]; omega

/-- From the blocks of rows the exchange makes the blocks of columns. -/
theorem outAt_rowsOf (v : Shape.Idx ⟨2, ![1024, 1024]⟩ → Elt F .bf16) (X : Dev nD → XBuf F)
    (hX : ∀ d, X d = rowsOf v d) (c : Dev nD) : outAt X c = colsOf v c := by
  funext i
  have hr : (i 0).val < 1024 := (i 0).isLt
  have hq : (i 1).val < 512 := (i 1).isLt
  have hs := srcDev_mod c _ hr
  show X (srcDev c (i 0).val) _ = _
  rw [hX]
  refine congrArg v ?_
  funext a
  apply Fin.ext
  match a with
  | ⟨0, _⟩ =>
    show ((srcDev c (i 0).val).val / 1 % 2 * 1 + 0) * 512 + (i 0).val % 512 = 0 * 1024 + (i 0).val
    omega
  | ⟨1, _⟩ =>
    show 0 * 1024 + (512 * (c.val % 2) + (i 1).val) % 1024 = (c.val / 1 % 2 * 1 + 0) * 512 + (i 1).val
    omega

/-- Every run of the mesh from the blocks of rows of `v` ends with the blocks of columns of `v`, the arguments unchanged. -/
theorem run_value (v : Shape.Idx ⟨2, ![1024, 1024]⟩ → Elt F .bf16)
    (hv : ∀ c : Dev nD, m ((c : Thread nD τ).loc main_arg0) = rowsOf v c) :
    θ_run defs (onTc (τ := τ) (main (F := F))) (s₀ m ρ) (fun r => ∀ c : Dev nD,
      r.2.mem ((c : Thread nD τ).loc main_v1) = colsOf v c
      ∧ r.2.mem ((c : Thread nD τ).loc main_arg0) = m ((c : Thread nD τ).loc main_arg0)) :=
  (θ_run defs _ _).mono
    (fun _ h c => ⟨(h.1 c (1 : Fin 2)).trans ((finalA_o m ρ c).trans
        (outAt_rowsOf v _ (fun d => (xstg_eq m ρ d).trans (hv d)) c)),
      (h.1 c (0 : Fin 2)).trans (finalA_x m ρ c)⟩)
    (run_main m ρ)

/-- Every run of the mesh ends with the arguments unchanged and every semaphore at zero. -/
theorem run_quiet :
    θ_run defs (onTc (τ := τ) (main (F := F))) (s₀ m ρ) (fun r =>
      (∀ c : Dev nD, r.2.mem ((c : Thread nD τ).loc main_arg0) = m ((c : Thread nD τ).loc main_arg0))
      ∧ r.2.sem = fun _ => 0) :=
  (θ_run defs _ _).mono (fun _ h => ⟨fun c => (h.1 c (0 : Fin 2)).trans (finalA_x m ρ c), h.2⟩) (run_main m ρ)

end Cert.Exchange

end
-- ==== Proof.Same.lean ====
/-
# One text, two programs

The kernel and its idealization have the same text: over the same float values they are the same program.
-/
module

public import proofs.«01_k».proof.Defs
public import proofs.«01_k».proof.Proof.Gen.Kernel
public import proofs.«01_k».proof.Proof.Gen.KernelIdeal

@[expose] public section

noncomputable section

namespace Cert.Same

open Idealize.ShloMosaic Idealize.SL.Sem

attribute [local instance] Cert.Kernel.Gen.facts Cert.KernelIdeal.Gen.facts

variable {F : FTy → Type} [FloatOps F]

theorem bodies_eq : Cert.Kernel.defs₀ (F := F) = Cert.KernelIdeal.defs₀ (F := F) := by
  unfold Cert.Kernel.defs₀ Cert.KernelIdeal.defs₀
  refine congrArg Defs.onTc ?_
  funext ℓ a
  match ℓ, a with
  | 0, (t, s) => rfl

theorem defs_eq : Cert.Kernel.defs (F := F) = Cert.KernelIdeal.defs (F := F) := congrArg (Pipeline.defs _) bodies_eq

/-- What every run of the idealization satisfies, every run of the kernel satisfies. -/
theorem run_of (σ : MemSt Cert.Kernel.nD Cert.Kernel.τ Cert.Kernel.sig (Elt F))
    (Q : PUnit × MemSt Cert.Kernel.nD Cert.Kernel.τ Cert.Kernel.sig (Elt F) → Prop)
    (h : θ_run (Cert.KernelIdeal.defs (F := F)) (onTc (τ := Cert.KernelIdeal.τ) (Cert.KernelIdeal.main (F := F))) σ Q) :
    θ_run (Cert.Kernel.defs (F := F)) (onTc (τ := Cert.Kernel.τ) (Cert.Kernel.main (F := F))) σ Q := by
  rw [defs_eq]
  exact h

end Cert.Same

end
-- ==== Proof.Whole.lean ====
/-
# The run of the reference

The reference returns its argument: it performs no operation, and its result is the argument array itself.
-/
module

public import proofs.«01_k».proof.ReferenceIdeal
public import proofs.«01_k».proof.Proof.Gen.ReferenceIdeal
public import Idealize.ShloMosaic.Lib.StableHlo.Run
public import Idealize.ShloMosaic.Lib.Quiescent

@[expose] public section

noncomputable section

namespace Cert.Whole

open Cert.ReferenceIdeal Cert.ReferenceIdeal.Gen
open Idealize.ShloMosaic Idealize.ShloMosaic.TcCoe Idealize.SL.Sem

variable {F : FTy → Type} [FloatOps F]

/-- Every run of the reference ends with its argument unchanged and every semaphore at zero. -/
theorem run_quiet (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c : Thread nD τ).loc main_arg0) = m ((c : Thread nD τ).loc main_arg0))
      ∧ r.2.sem = fun _ => 0) :=
  (θ_run defs _ _).mono (fun r h => ⟨fun c => h c main_arg0, sem_eq_zero_of_no_sems (by decide) r.2⟩)
    (StableHlo.run_seq (by decide) (by decide) defs main (fun _ => []) (fun _ => rfl) (fun _ => trivial) m ρ)

end Cert.Whole

end
-- ==== Proof.lean ====
/-
# The claims

The kernel exchanges blocks over a 2 x 2 mesh so that an array cut by rows ends cut by columns; the reference is the
identity on the whole array. The kernel and its idealization have the same text, and so have the reference and its
idealization, so each run is proved once, over any float values, and read here at both.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Reference
public import proofs.«01_k».proof.Proof.Value
public import proofs.«01_k».proof.Proof.Same
public import proofs.«01_k».proof.Proof.Whole

@[expose] public section

noncomputable section

namespace Cert.Proof

open Idealize.ShloMosaic Idealize.SL.Sem

theorem frame_kernel : Cert.quiescent_Kernel := fun m ρ _ =>
  Cert.Same.run_of _ _ (Cert.Exchange.run_quiet (F := Bits) m ρ)

theorem frame_kernelIdeal : Cert.quiescent_KernelIdeal := fun m ρ _ => Cert.Exchange.run_quiet (F := Ideal) m ρ

theorem frame_referenceIdeal : Cert.quiescent_ReferenceIdeal := fun m ρ _ => Cert.Whole.run_quiet (F := Ideal) m ρ

theorem frame_reference : Cert.quiescent_Reference := fun m ρ _ => Cert.Whole.run_quiet (F := Bits) m ρ

/-- Over the extended reals, the devices' results are the blocks of columns of the whole array. -/
theorem algebraic : Cert.algebraic_KernelIdeal_ReferenceIdeal := fun m ρ m' ρ' _ hv =>
  ⟨_, Cert.Exchange.run_value (F := Ideal) m ρ _ hv,
    (θ_run Cert.ReferenceIdeal.defs _ _).mono (fun _ h => ⟨h.1 0, h.1 0⟩) (Cert.Whole.run_quiet (F := Ideal) m' ρ')⟩

/-- And bit for bit. -/
theorem bitexact : Cert.bitexact_Kernel_Reference := fun m ρ m' ρ' _ hv =>
  ⟨_, Cert.Same.run_of _ _ (Cert.Exchange.run_value (F := Bits) m ρ _ hv),
    (θ_run Cert.Reference.defs _ _).mono (fun _ h => ⟨h.1 0, h.1 0⟩) (Cert.Whole.run_quiet (F := Bits) m' ρ')⟩

theorem claim : Cert.Claim :=
  ⟨Cert.Kernel.Gen.facts, Cert.KernelIdeal.Gen.facts, Cert.ReferenceIdeal.Gen.facts, Cert.Reference.Gen.facts,
    frame_kernel, frame_kernelIdeal, frame_referenceIdeal, frame_reference, trivial, algebraic, bitexact⟩

end Cert.Proof

end
